-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x2304x16 : Shape := ⟨3, ![6, 2304, 16]⟩
abbrev S6x2304 : Shape := ⟨2, ![6, 2304]⟩
abbrev S8192x16 : Shape := ⟨2, ![8192, 16]⟩
abbrev S8192 : Shape := ⟨1, ![8192]⟩
abbrev S13824x16 : Shape := ⟨2, ![13824, 16]⟩
abbrev S16x13824 : Shape := ⟨2, ![16, 13824]⟩
abbrev S27x1x512 : Shape := ⟨3, ![27, 1, 512]⟩
abbrev S64x128 : Shape := ⟨2, ![64, 128]⟩
abbrev S8192x128 : Shape := ⟨2, ![8192, 128]⟩
abbrev S1x128 : Shape := ⟨2, ![1, 128]⟩
abbrev S128x128 : Shape := ⟨2, ![128, 128]⟩
abbrev S128x16 : Shape := ⟨2, ![128, 16]⟩
abbrev S128 : Shape := ⟨1, ![128]⟩
abbrev S128x1 : Shape := ⟨2, ![128, 1]⟩
abbrev S16x512 : Shape := ⟨2, ![16, 512]⟩
abbrev S1x1x512 : Shape := ⟨3, ![1, 1, 512]⟩
abbrev S1x512 : Shape := ⟨2, ![1, 512]⟩
abbrev S512 : Shape := ⟨1, ![512]⟩
abbrev S8x128 : Shape := ⟨2, ![8, 128]⟩
abbrev S64x16 : Shape := ⟨2, ![64, 16]⟩
abbrev S64x512 : Shape := ⟨2, ![64, 512]⟩
abbrev S1x1x128 : Shape := ⟨3, ![1, 1, 128]⟩

abbrev nBuf : Space → Nat
  | .hbm => 12
  | .vmem => 8
  | .smem => 0
  | _ => 0

abbrev bufTy : (tb : Table) → Fin (tcTables nBuf tb) → BufTy
  | .hbm, ⟨0, _⟩ => ⟨S6x2304x16, .fp8e4m3⟩
  | .hbm, ⟨1, _⟩ => ⟨S6x2304, .f32⟩
  | .hbm, ⟨2, _⟩ => ⟨S8192x16, .fp8e4m3⟩
  | .hbm, ⟨3, _⟩ => ⟨S8192, .f32⟩
  | .hbm, ⟨4, _⟩ => ⟨S13824x16, .fp8e4m3⟩
  | .hbm, ⟨5, _⟩ => ⟨S16x13824, .fp8e4m3⟩
  | .hbm, ⟨6, _⟩ => ⟨S27x1x512, .f32⟩
  | .hbm, ⟨7, _⟩ => ⟨S64x128, .f32⟩
  | .hbm, ⟨8, _⟩ => ⟨S27x1x512, .f32⟩
  | .hbm, ⟨9, _⟩ => ⟨S27x1x512, .f32⟩
  | .hbm, ⟨10, _⟩ => ⟨S6x2304, .f32⟩
  | .hbm, ⟨11, _⟩ => ⟨S6x2304, .f32⟩
  | .local _ .vmem, ⟨0, _⟩ => ⟨S16x13824, .fp8e4m3⟩
  | .local _ .vmem, ⟨1, _⟩ => ⟨S27x1x512, .f32⟩
  | .local _ .vmem, ⟨2, _⟩ => ⟨S8192x16, .fp8e4m3⟩
  | .local _ .vmem, ⟨3, _⟩ => ⟨S64x128, .f32⟩
  | .local _ .vmem, ⟨4, _⟩ => ⟨S27x1x512, .f32⟩
  | .local _ .vmem, ⟨5, _⟩ => ⟨S27x1x512, .f32⟩
  | .local _ .vmem, ⟨6, _⟩ => ⟨S8192x128, .f32⟩
  | .local _ .vmem, ⟨7, _⟩ => ⟨S8192x128, .f32⟩
  | _, _ => ⟨S6x2304x16, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c64_i32 : BitVec 32 := 64#32
  let v0 : BitVec 32 := Scalar.addi c0_i32 c64_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32 : BitVec 32 := 128#32
  let v2 : BitVec 32 := Scalar.muli arg8 c128_i32
  v2
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let v4 : Index := Scalar.indexCast arg8
  let c0 : Index := 0#32
  ![v4.toNat, 0]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v2 : BitVec 32 := Scalar.muli arg8 c128_i32
  let v3 : BitVec 32 := v2
  let v10 : Index := Scalar.indexCast v3
  let c0_4 : Index := 0#32
  ![v10.toNat, 0]
def k0_off3 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v2 : BitVec 32 := Scalar.muli arg8 c128_i32
  let v3 : BitVec 32 := v2
  let v19 : Index := Scalar.indexCast v3
  let c0_5 : Index := 0#32
  ![v19.toNat, 0]
@[reducible] def k0_t2_loop : Scf.Loop 32 :=
  let c0_i32_1 : BitVec 32 := 0#32
  let c27_i32 : BitVec 32 := 27#32
  let v1 : BitVec 32 := Scalar.addi c0_i32_1 c27_i32
  let c1_i32_2 : BitVec 32 := 1#32
  ⟨c0_i32_1, v1, c1_i32_2⟩
def k0_mult2 (k0_t2 : Fin k0_t2_loop.trips) : BitVec 32 :=
  let c0_i32_1 : BitVec 32 := 0#32
  let c1_i32_2 : BitVec 32 := 1#32
  let arg8 : BitVec 32 := Scf.iv c0_i32_1 c1_i32_2 k0_t2
  let c512_i32 : BitVec 32 := 512#32
  let v2 : BitVec 32 := Scalar.muli arg8 c512_i32
  v2
def k0_off4 (k0_t2 : Fin k0_t2_loop.trips) : Fin 2 → Nat :=
  let c0 : Index := 0#32
  let c0_i32_1 : BitVec 32 := 0#32
  let c1_i32_2 : BitVec 32 := 1#32
  let arg8 : BitVec 32 := Scf.iv c0_i32_1 c1_i32_2 k0_t2
  let c512_i32 : BitVec 32 := 512#32
  let v2 : BitVec 32 := Scalar.muli arg8 c512_i32
  let v3 : BitVec 32 := v2
  let v4 : Index := Scalar.indexCast v3
  ![0, v4.toNat]
def k0_off5 (k0_t2 : Fin k0_t2_loop.trips) : Fin 3 → Nat :=
  let c0_i32_1 : BitVec 32 := 0#32
  let c1_i32_2 : BitVec 32 := 1#32
  let arg8 : BitVec 32 := Scf.iv c0_i32_1 c1_i32_2 k0_t2
  let v7 : Index := Scalar.indexCast arg8
  let c0_4 : Index := 0#32
  let c0_5 : Index := 0#32
  ![v7.toNat, 0, 0]
def k0_off6 (k0_t2 : Fin k0_t2_loop.trips) : Fin 3 → Nat :=
  let c0_i32_1 : BitVec 32 := 0#32
  let c1_i32_2 : BitVec 32 := 1#32
  let arg8 : BitVec 32 := Scf.iv c0_i32_1 c1_i32_2 k0_t2
  let v31026 : Index := Scalar.indexCast arg8
  let c0_3468 : Index := 0#32
  let c0_3469 : Index := 0#32
  ![v31026.toNat, 0, 0]
def k0_off7 (k0_t2 : Fin k0_t2_loop.trips) : Fin 3 → Nat :=
  let c0_i32_1 : BitVec 32 := 0#32
  let c1_i32_2 : BitVec 32 := 1#32
  let arg8 : BitVec 32 := Scf.iv c0_i32_1 c1_i32_2 k0_t2
  let v31059 : Index := Scalar.indexCast arg8
  let c0_3478 : Index := 0#32
  let c128_3479 : Index := 128#32
  ![v31059.toNat, 0, 128]
def k0_off8 (k0_t2 : Fin k0_t2_loop.trips) : Fin 3 → Nat :=
  let c0_i32_1 : BitVec 32 := 0#32
  let c1_i32_2 : BitVec 32 := 1#32
  let arg8 : BitVec 32 := Scf.iv c0_i32_1 c1_i32_2 k0_t2
  let v31092 : Index := Scalar.indexCast arg8
  let c0_3488 : Index := 0#32
  let c256_3489 : Index := 256#32
  ![v31092.toNat, 0, 256]
def k0_off9 (k0_t2 : Fin k0_t2_loop.trips) : Fin 3 → Nat :=
  let c0_i32_1 : BitVec 32 := 0#32
  let c1_i32_2 : BitVec 32 := 1#32
  let arg8 : BitVec 32 := Scf.iv c0_i32_1 c1_i32_2 k0_t2
  let v31125 : Index := Scalar.indexCast arg8
  let c0_3498 : Index := 0#32
  let c384_3499 : Index := 384#32
  ![v31125.toNat, 0, 384]
abbrev stage0_0 : Fin 1 → Memref sig .tc .vmem S16x13824 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S27x1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x16 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S27x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S27x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S6x2304x16 : Shape := ⟨3, ![6, 2304, 16]⟩
abbrev S6x2304 : Shape := ⟨2, ![6, 2304]⟩
abbrev S8192x16 : Shape := ⟨2, ![8192, 16]⟩
abbrev S8192 : Shape := ⟨1, ![8192]⟩
abbrev S13824x16 : Shape := ⟨2, ![13824, 16]⟩
abbrev S13824 : Shape := ⟨1, ![13824]⟩
abbrev S_ : Shape := ⟨0, ![]⟩
abbrev S13824x8192 : Shape := ⟨2, ![13824, 8192]⟩
abbrev S13824x1 : Shape := ⟨2, ![13824, 1]⟩
abbrev S1x8192 : Shape := ⟨2, ![1, 8192]⟩
abbrev S13824x2 : Shape := ⟨2, ![13824, 2]⟩

abbrev nBuf : Space → Nat
  | .hbm => 47
  | .vmem => 4
  | .smem => 0
  | _ => 0

abbrev bufTy : (tb : Table) → Fin (tcTables nBuf tb) → BufTy
  | .hbm, ⟨0, _⟩ => ⟨S6x2304x16, .fp8e4m3⟩
  | .hbm, ⟨1, _⟩ => ⟨S6x2304, .f32⟩
  | .hbm, ⟨2, _⟩ => ⟨S8192x16, .fp8e4m3⟩
  | .hbm, ⟨3, _⟩ => ⟨S8192, .f32⟩
  | .hbm, ⟨4, _⟩ => ⟨S13824x16, .fp8e4m3⟩
  | .hbm, ⟨5, _⟩ => ⟨S13824x16, .f32⟩
  | .hbm, ⟨6, _⟩ => ⟨S8192x16, .f32⟩
  | .hbm, ⟨7, _⟩ => ⟨S13824, .f32⟩
  | .hbm, ⟨8, _⟩ => ⟨S13824, .f32⟩
  | .hbm, ⟨9, _⟩ => ⟨S13824x16, .f32⟩
  | .hbm, ⟨10, _⟩ => ⟨S_, .f32⟩
  | .hbm, ⟨11, _⟩ => ⟨S13824, .f32⟩
  | .hbm, ⟨12, _⟩ => ⟨S13824, .f32⟩
  | .hbm, ⟨13, _⟩ => ⟨S8192, .f32⟩
  | .hbm, ⟨14, _⟩ => ⟨S8192x16, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S13824x8192, .f32⟩
  | .hbm, ⟨19, _⟩ => ⟨S13824x1, .f32⟩
  | .hbm, ⟨20, _⟩ => ⟨S1x8192, .f32⟩
  | .hbm, ⟨21, _⟩ => ⟨S13824x8192, .f32⟩
  | .hbm, ⟨22, _⟩ => ⟨S13824x8192, .f32⟩
  | .hbm, ⟨23, _⟩ => ⟨S13824x8192, .f32⟩
  | .hbm, ⟨24, _⟩ => ⟨S13824x1, .f32⟩
  | .hbm, ⟨25, _⟩ => ⟨S1x8192, .f32⟩
  | .hbm, ⟨26, _⟩ => ⟨S13824x8192, .f32⟩
  | .hbm, ⟨27, _⟩ => ⟨S13824x8192, .f32⟩
  | .hbm, ⟨28, _⟩ => ⟨S13824x8192, .f32⟩
  | .hbm, ⟨29, _⟩ => ⟨S_, .f32⟩
  | .hbm, ⟨30, _⟩ => ⟨S13824x8192, .f32⟩
  | .hbm, ⟨31, _⟩ => ⟨S13824x8192, .f32⟩
  | .hbm, ⟨32, _⟩ => ⟨S13824x8192, .f32⟩
  | .hbm, ⟨33, _⟩ => ⟨S13824x8192, .f32⟩
  | .hbm, ⟨34, _⟩ => ⟨S13824x8192, .f32⟩
  | .hbm, ⟨35, _⟩ => ⟨S13824x2, .f32⟩
  | .hbm, ⟨36, _⟩ => ⟨S13824x2, .i32⟩
  | .hbm, ⟨37, _⟩ => ⟨S13824x2, .f32⟩
  | .hbm, ⟨38, _⟩ => ⟨S13824x1, .f32⟩
  | .hbm, ⟨39, _⟩ => ⟨S13824, .f32⟩
  | .hbm, ⟨40, _⟩ => ⟨S6x2304, .f32⟩
  | .hbm, ⟨41, _⟩ => ⟨S13824x1, .f32⟩
  | .hbm, ⟨42, _⟩ => ⟨S13824, .f32⟩
  | .hbm, ⟨43, _⟩ => ⟨S13824x1, .f32⟩
  | .hbm, ⟨44, _⟩ => ⟨S13824, .f32⟩
  | .hbm, ⟨45, _⟩ => ⟨S13824, .f32⟩
  | .hbm, ⟨46, _⟩ => ⟨S6x2304, .f32⟩
  | .local _ .vmem, ⟨0, _⟩ => ⟨S13824x16, .fp8e4m3⟩
  | .local _ .vmem, ⟨1, _⟩ => ⟨S8192x16, .fp8e4m3⟩
  | .local _ .vmem, ⟨2, _⟩ => ⟨S13824x16, .f32⟩
  | .local _ .vmem, ⟨3, _⟩ => ⟨S8192x16, .f32⟩
  | _, _ => ⟨S6x2304x16, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_values : Ref sig .tc := ⟨.hbm, 35, rfl⟩
abbrev main_indices : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S13824x16 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x16 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S13824x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Tile.lean ====
/- What one token tile of the kernel computes, and how its long straight-line body is read: a
   program that only loads is followed statement by statement against named running values. -/
module

public import proofs.«01_k».proof.Proof.Gen.KernelIdeal.Skeleton
public import Idealize.ShloMosaic.Lib.Exec
public import Idealize.ShloMosaic.Lib.Tactic
public import Idealize.ShloMosaic.Lib.Pipeline.Kit

@[expose] public section

set_option synthInstance.maxSize 4096

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

section reading
variable (𝒱 : Variants) (c : Dev nD) (bd : Option 𝒱.V) (E : Set ℕ)

/-- The program `p`, run from the resources `P`, returns `a` and leaves the resources `P'`. -/
def RO (P : sProp (MT nD τ sig Unit (Elt F) ℕ (UR sig nD τ) ℕ)) {α : Type} (p : Prog (TpuEff nD τ sig (Elt F) Λ₀ .tc) α) (a : α)
    (P' : sProp (MT nD τ sig Unit (Elt F) ℕ (UR sig nD τ) ℕ)) : Prop :=
  ∀ Q : α → sProp (MT nD τ sig Unit (Elt F) ℕ (UR sig nD τ) ℕ), (P' ⊢ Q a) → P ⊢ wp frame (wpE (defs₀ (F := F)) 𝒱 (c : Thread nD τ) bd) E p Q

variable {𝒱 c bd E} {P P' P'' : sProp (MT nD τ sig Unit (Elt F) ℕ (UR sig nD τ) ℕ)} {α β : Type}

theorem RO.ret {a b : α} (h : a = b) : RO 𝒱 c bd E P (pure a : Prog (TpuEff nD τ sig (Elt F) Λ₀ .tc) α) b P := by
  subst h
  intro Q hQ
  exact hQ.trans (le_wp_ret _ _ _ a Q)

theorem RO.bind {p : Prog (TpuEff nD τ sig (Elt F) Λ₀ .tc) α} {f : α → Prog (TpuEff nD τ sig (Elt F) Λ₀ .tc) β} {a : α} {b : β}
    (hp : RO 𝒱 c bd E P p a P') (hf : RO 𝒱 c bd E P' (f a) b P'') : RO 𝒱 c bd E P (p >>= f) b P'' := by
  intro Q hQ
  rw [wp_bind]
  exact hp _ (hf Q hQ)

theorem RO.post {p : Prog (TpuEff nD τ sig (Elt F) Λ₀ .tc) α} {a : α} (h : RO 𝒱 c bd E P p a P') (hP : P' = P'') :
    RO 𝒱 c bd E P p a P'' := hP ▸ h

/-- A load from a buffer among the resources returns what the view reads of its contents. -/
theorem RO.load {s : Shape} {e : EltTy} (m : Memref sig .tc .vmem s e) (f : Buf (Elt F) (m.view.loc (c : Thread nD τ)))
    (hP : P ⊢ iprop((m.view.loc (c : Thread nD τ) ↦[m.view.set]{fullShare} f)
      ∗ ((m.view.loc (c : Thread nD τ) ↦[m.view.set]{fullShare} f) -∗ P)))
    {r : LoadRect s} {hl : m.view.LoadsAt r} :
    RO 𝒱 c bd E P (Prog.lift (.load m r hl) : Prog (TpuEff nD τ sig (Elt F) Λ₀ .tc) _) (m.view.readAt (Elt F) r f) P := by
  intro Q hQ
  refine hP.trans ?_
  have h := wp_load (defs := defs₀ (F := F)) 𝒱 (c : Thread nD τ) bd E (Γ := .empty) (Q := Q) (m := m) (r := r) (hl := hl)
    (k := .ret) (S := m.view.set) (q := fullShare) (f := f) (View.setOn_subset_set _ _)
  iintro ⟨H, HP⟩
  iapply h $$ H
  iintro H
  iapply (le_wp_ret _ _ _ _ Q)
  iapply hQ
  iapply HP $$ H

/-- A store over a rectangle of a buffer among the resources writes that piece. -/
theorem RO.store {s : Shape} {e : EltTy} (m : Memref sig .tc .vmem s e) (f : Buf (Elt F) (m.view.loc (c : Thread nD τ)))
    {r : Rect s} {w : r.shape.Idx → Elt F e} {hx : (m.access r).Stores Finset.univ} {hm : Finset.univ = Finset.univ ∨ ∀ a, r.stride a = 1}
    (hP : P ⊢ iprop((m.view.loc (c : Thread nD τ) ↦[m.view.set]{fullShare} f)
      ∗ ((m.view.loc (c : Thread nD τ) ↦[m.view.set]{fullShare} m.view.writes (Elt F) f [⟨r, w⟩]) -∗ P'))) :
    RO 𝒱 c bd E P (Prog.lift (.store m r w Finset.univ hx hm) : Prog (TpuEff nD τ sig (Elt F) Λ₀ .tc) _) PUnit.unit P' := by
  intro Q hQ
  refine hP.trans ?_
  have h := wp_store_writes (defs := defs₀ (F := F)) 𝒱 (c : Thread nD τ) bd E (Q := Q) (m := m) (r := r) (w := w) (hx := hx) (hm := hm)
    (k := .ret) (S := m.view.set) (f := f) (L := []) (View.set_slice_subset _ _)
  rw [View.writes_nil] at h
  iintro ⟨H, HP⟩
  iapply h $$ H
  iintro H
  iapply (le_wp_ret _ _ _ _ Q)
  iapply hQ
  iapply HP $$ H

end reading

section tile

/-- The buffers a tile reads or writes, and what the read ones hold. -/
structure Env (F : FTy → Type) where
  arg0 : Memref sig .tc .vmem S16x13824 .fp8e4m3
  arg1 : Memref sig .tc .vmem S27x1x512 .f32
  arg2 : Memref sig .tc .vmem S8192x16 .fp8e4m3
  arg6 : Memref sig .tc .vmem S8192x128 .f32
  arg7 : Memref sig .tc .vmem S8192x128 .f32
  arg4 : Memref sig .tc .vmem S27x1x512 .f32
  arg5 : Memref sig .tc .vmem S27x1x512 .f32
  X0 : BufTy.Contents (Elt F) arg0.view.ty
  X1 : BufTy.Contents (Elt F) arg1.view.ty
  X2 : BufTy.Contents (Elt F) arg2.view.ty
  X6 : BufTy.Contents (Elt F) arg6.view.ty
  X7 : BufTy.Contents (Elt F) arg7.view.ty
  k : Fin k0_t2_loop.trips

variable (e : Env F)

/-- What a load from each buffer reads. -/
def rd0 : FVec F S16x512 .fp8e4m3 :=
  e.arg0.view.readAt (Elt F) (Rect.unit (s := S16x13824) (k0_off4 e.k) S16x512.size (k0_off4_inb e.k)).toLoadRect e.X0
@[inherit_doc rd0] def rd1 : FVec F S1x1x512 .f32 :=
  e.arg1.view.readAt (Elt F) (Rect.unit (s := S27x1x512) (k0_off5 e.k) S1x1x512.size (k0_off5_inb e.k)).toLoadRect e.X1
@[inherit_doc rd0] def rd2 (o : ℕ) (h : ∀ a, (![o, 0] : Fin 2 → ℕ) a + S64x16.size a ≤ S8192x16.size a) : FVec F S64x16 .fp8e4m3 :=
  e.arg2.view.readAt (Elt F) (Rect.unit (s := S8192x16) ![o, 0] S64x16.size h).toLoadRect e.X2
@[inherit_doc rd0] def rd6 (o : ℕ) (h : ∀ a, (![o, 0] : Fin 2 → ℕ) a + S8x128.size a ≤ S8192x128.size a) : FVec F S8x128 .f32 :=
  e.arg6.view.readAt (Elt F) (Rect.unit (s := S8192x128) ![o, 0] S8x128.size h).toLoadRect e.X6
@[inherit_doc rd0] def rd7 (o : ℕ) (h : ∀ a, (![o, 0] : Fin 2 → ℕ) a + S8x128.size a ≤ S8192x128.size a) : FVec F S8x128 .f32 :=
  e.arg7.view.readAt (Elt F) (Rect.unit (s := S8192x128) ![o, 0] S8x128.size h).toLoadRect e.X7

/-- The tile's token codes. -/
def xt : FVec F S16x512 .fp8e4m3 := shapeCast S16x512 (rd0 e) shapeCasts_S16x512_S16x512

/-- The tile's token scales. -/
def xs : FVec F S1x512 .f32 := shapeCast S1x512 (rd1 e) shapeCasts_S1x1x512_S1x512

/-- The tile's token norms. -/
def xn : FVec F S1x512 .f32 :=
  mulf (mulf (xs e) (xs e))
    (shapeCast S1x512 (multiReduction .add [0] S512 (mulf (extf .f32 (xt e) bitsLt_fp8e4m3_f32) (extf .f32 (xt e) bitsLt_fp8e4m3_f32)) 0x00000000#32 reduces_S16x512_S512 (.inl rfl) rfl) shapeCasts_S512_S1x512)

theorem slicesXs (h : Fin 4) : S1x512.Slices ![0, 128 * h.val] S1x128 := by
  revert h; decide

/-- Lane group `h` of the token scales, on every sublane. -/
def sb (h : Fin 4) : FVec F S8x128 .f32 :=
  broadcastTo S8x128 (shapeCast S1x128 (extractStridedSlice S1x128 ![0, 128 * h.val] (xs e) (slicesXs h)) shapeCasts_S1x128_S1x128) broadcasts_S1x128_S8x128

theorem inb2 (j : ℕ) (hj : (j.blt 128) = true) : ∀ a, (![64 * j, 0] : Fin 2 → ℕ) a + S64x16.size a ≤ S8192x16.size a := by
  have := Nat.blt_eq.mp hj
  intro a; fin_cases a <;> simp [S64x16, S8192x16] <;> omega

theorem inb6 (j : ℕ) (hj : (j.blt 1024) = true) : ∀ a, (![8 * j, 0] : Fin 2 → ℕ) a + S8x128.size a ≤ S8192x128.size a := by
  have := Nat.blt_eq.mp hj
  intro a; fin_cases a <;> simp [S8x128, S8192x128] <;> omega

theorem slicesDot (r : ℕ) (hr : (r.blt 8) = true) (h : Fin 4) : S64x512.Slices ![8 * r, 128 * h.val] S8x128 := by
  have := Nat.blt_eq.mp hr
  refine ⟨rfl, fun a => ?_⟩
  fin_cases a <;> simp [S8x128, S64x512, Fin.cast] <;> omega

/-- The dot products of chunk `j` of the codes with the tile's tokens. -/
def dot (j : ℕ) (hj : (j.blt 128) = true) : FVec F S64x512 .f32 :=
  matmul dot_S64x16_S16x512_S64x512_1_0_0_1_n_n none (rd2 e (64 * j) (inb2 j hj)) (xt e) (constant S64x512 .f32 0x00000000#32)

theorem blt_div {j : ℕ} (hj : (j.blt 1024) = true) : ((j / 8).blt 128) = true := by
  have := Nat.blt_eq.mp hj
  exact Nat.blt_eq.mpr (by omega)

theorem blt_mod (j : ℕ) : ((j % 8).blt 8) = true := Nat.blt_eq.mpr (by omega)

/-- The distances (without the token norm) of the eight codes of row `j` to lane group `h`. -/
def val (h : Fin 4) (j : ℕ) (hj : (j.blt 1024) = true) : FVec F S8x128 .f32 :=
  subf (rd7 e (8 * j) (inb6 j hj))
    (mulf (mulf (rd6 e (8 * j) (inb6 j hj)) (sb e h))
      (extractStridedSlice S8x128 ![8 * (j % 8), 128 * h.val] (dot e (j / 8) (blt_div hj)) (slicesDot (j % 8) (blt_mod j) h)))

/-- +infinity on every sublane and lane. -/
def inf : FVec F S8x128 .f32 := broadcast S8x128 (Scalar.ofBits .f32 0x7F800000#32 : F .f32)

/-- The two smallest distances so far, per sublane and lane of group `h`, after `j` rows of codes. -/
def two (h : Fin 4) : ℕ → FVec F S8x128 .f32 × FVec F S8x128 .f32
  | 0 => (inf, inf)
  | j + 1 =>
    if hj : (j.blt 1024) = true then
      (minimumf (two h j).1 (val e h j hj), minimumf (two h j).2 (maximumf (two h j).1 (val e h j hj)))
    else two h j

/-- The smallest so far. -/
def fst (h : Fin 4) (j : ℕ) : FVec F S8x128 .f32 := (two e h j).1
/-- The second smallest so far. -/
def snd (h : Fin 4) (j : ℕ) : FVec F S8x128 .f32 := (two e h j).2

theorem fst_step (h : Fin 4) (j : ℕ) (v7 v6 d : FVec F S8x128 .f32) (hj : (j.blt 1024) = true)
    (h7 : v7 = rd7 e (8 * j) (inb6 j hj)) (h6 : v6 = rd6 e (8 * j) (inb6 j hj))
    (hd : d = extractStridedSlice S8x128 ![8 * (j % 8), 128 * h.val] (dot e (j / 8) (blt_div hj)) (slicesDot (j % 8) (blt_mod j) h)) :
    minimumf (fst e h j) (subf v7 (mulf (mulf v6 (sb e h)) d)) = fst e h (j + 1) := by
  subst h7; subst h6; subst hd; simp only [fst, two, dif_pos hj]; rfl

theorem snd_step (h : Fin 4) (j : ℕ) (v7 v6 d : FVec F S8x128 .f32) (hj : (j.blt 1024) = true)
    (h7 : v7 = rd7 e (8 * j) (inb6 j hj)) (h6 : v6 = rd6 e (8 * j) (inb6 j hj))
    (hd : d = extractStridedSlice S8x128 ![8 * (j % 8), 128 * h.val] (dot e (j / 8) (blt_div hj)) (slicesDot (j % 8) (blt_mod j) h)) :
    minimumf (snd e h j) (maximumf (fst e h j) (subf v7 (mulf (mulf v6 (sb e h)) d))) = snd e h (j + 1) := by
  subst h7; subst h6; subst hd; simp only [fst, snd, two, dif_pos hj]; rfl

theorem fst_one (h : Fin 4) (v7 v6 d : FVec F S8x128 .f32)
    (h7 : v7 = rd7 e 0 (inb6 0 rfl)) (h6 : v6 = rd6 e 0 (inb6 0 rfl))
    (hd : d = extractStridedSlice S8x128 ![0, 128 * h.val] (dot e 0 rfl) (slicesDot 0 rfl h)) :
    minimumf inf (subf v7 (mulf (mulf v6 (sb e h)) d)) = fst e h 1 :=
  fst_step e h 0 v7 v6 d rfl h7 h6 hd

theorem snd_one (h : Fin 4) (v7 v6 d : FVec F S8x128 .f32)
    (h7 : v7 = rd7 e 0 (inb6 0 rfl)) (h6 : v6 = rd6 e 0 (inb6 0 rfl))
    (hd : d = extractStridedSlice S8x128 ![0, 128 * h.val] (dot e 0 rfl) (slicesDot 0 rfl h)) :
    minimumf inf (maximumf inf (subf v7 (mulf (mulf v6 (sb e h)) d))) = snd e h 1 :=
  snd_step e h 0 v7 v6 d rfl h7 h6 hd

/-- Rows `i` and `i + n` merged: the two smallest of the four values at each sublane. -/
def mm (n : BitVec 32) (p : FVec F S8x128 .f32 × FVec F S8x128 .f32) : FVec F S8x128 .f32 × FVec F S8x128 .f32 :=
  (minimumf p.1 (dynamicRotate 0 n none p.1 rotates_S8x128_d0),
   minimumf (maximumf p.1 (dynamicRotate 0 n none p.1 rotates_S8x128_d0)) (minimumf p.2 (dynamicRotate 0 n none p.2 rotates_S8x128_d0)))

/-- The two smallest over all sublanes, at every sublane. -/
def last (h : Fin 4) : FVec F S8x128 .f32 × FVec F S8x128 .f32 := mm 1#32 (mm 2#32 (mm 4#32 (fst e h 1024, snd e h 1024)))

/-- The smallest distance of each token of group `h`. -/
def outA (h : Fin 4) : FVec F S1x128 .f32 :=
  addf (extractStridedSlice S1x128 ![0, 0] (last e h).1 slices_S8x128_o0_0_S1x128)
    (extractStridedSlice S1x128 ![0, 128 * h.val] (xn e) (slicesXs h))

/-- The second smallest distance less the smallest. -/
def outB (h : Fin 4) : FVec F S1x128 .f32 :=
  subf (addf (extractStridedSlice S1x128 ![0, 0] (last e h).2 slices_S8x128_o0_0_S1x128)
    (extractStridedSlice S1x128 ![0, 128 * h.val] (xn e) (slicesXs h))) (outA e h)

/-- Stores the four lane groups `w h` of the tile's row of an output. -/
def put {m : Memref sig .tc .vmem S27x1x512 .f32} (f : BufTy.Contents (Elt F) m.view.ty) (w : Fin 4 → FVec F S1x128 .f32) : BufTy.Contents (Elt F) m.view.ty :=
  m.view.writes (Elt F) (m.view.writes (Elt F) (m.view.writes (Elt F) (m.view.writes (Elt F) f
    [⟨Rect.unit (s := S27x1x512) (k0_off6 e.k) S1x1x128.size (k0_off6_inb e.k), shapeCast S1x1x128 (w 0) shapeCasts_S1x128_S1x1x128⟩])
    [⟨Rect.unit (s := S27x1x512) (k0_off7 e.k) S1x1x128.size (k0_off7_inb e.k), shapeCast S1x1x128 (w 1) shapeCasts_S1x128_S1x1x128⟩])
    [⟨Rect.unit (s := S27x1x512) (k0_off8 e.k) S1x1x128.size (k0_off8_inb e.k), shapeCast S1x1x128 (w 2) shapeCasts_S1x128_S1x1x128⟩])
    [⟨Rect.unit (s := S27x1x512) (k0_off9 e.k) S1x1x128.size (k0_off9_inb e.k), shapeCast S1x1x128 (w 3) shapeCasts_S1x128_S1x1x128⟩]

theorem inf_eq : broadcast S8x128 (Scalar.ofBits .f32 0x7F800000#32 : F .f32) = inf := rfl

theorem xt_eq : shapeCast S16x512 (rd0 e) shapeCasts_S16x512_S16x512 = xt e := rfl
theorem xs_eq : shapeCast S1x512 (rd1 e) shapeCasts_S1x1x512_S1x512 = xs e := rfl
theorem sb0 : broadcastTo S8x128 (shapeCast S1x128 (extractStridedSlice S1x128 ![0, 0] (xs e) slices_S1x512_o0_0_S1x128) shapeCasts_S1x128_S1x128) broadcasts_S1x128_S8x128 = sb e 0 := rfl
theorem sb1 : broadcastTo S8x128 (shapeCast S1x128 (extractStridedSlice S1x128 ![0, 128] (xs e) slices_S1x512_o0_128_S1x128) shapeCasts_S1x128_S1x128) broadcasts_S1x128_S8x128 = sb e 1 := rfl
theorem sb2 : broadcastTo S8x128 (shapeCast S1x128 (extractStridedSlice S1x128 ![0, 256] (xs e) slices_S1x512_o0_256_S1x128) shapeCasts_S1x128_S1x128) broadcasts_S1x128_S8x128 = sb e 2 := rfl
theorem sb3 : broadcastTo S8x128 (shapeCast S1x128 (extractStridedSlice S1x128 ![0, 384] (xs e) slices_S1x512_o0_384_S1x128) shapeCasts_S1x128_S1x128) broadcasts_S1x128_S8x128 = sb e 3 := rfl
theorem xn_eq : mulf (mulf (xs e) (xs e))
    (shapeCast S1x512 (multiReduction .add [0] S512 (mulf (extf .f32 (xt e) bitsLt_fp8e4m3_f32) (extf .f32 (xt e) bitsLt_fp8e4m3_f32)) 0x00000000#32 reduces_S16x512_S512 (.inl rfl) rfl) shapeCasts_S512_S1x512) = xn e := rfl

/-- Keeps the statement of what computation proves. -/
theorem keep {p : Prop} (h : p) : p := h

theorem mk_congr {α β : Type} {a a' : α} {b b' : β} (h : a = a') (h' : b = b') :
    (⟨a, b⟩ : (_ : α) ×' β) = ⟨a', b'⟩ := by subst h; subst h'; rfl

/-- What one trip holds: the read buffers at their contents, the two outputs at any. -/
def res (c : Dev nD) (f4 : BufTy.Contents (Elt F) e.arg4.view.ty) (f5 : BufTy.Contents (Elt F) e.arg5.view.ty) : sProp (MT nD τ sig Unit (Elt F) ℕ (UR sig nD τ) ℕ) :=
  iprop((e.arg0.view.loc (c : Thread nD τ) ↦[e.arg0.view.set]{fullShare} e.X0) ∗ (e.arg1.view.loc (c : Thread nD τ) ↦[e.arg1.view.set]{fullShare} e.X1)
    ∗ (e.arg2.view.loc (c : Thread nD τ) ↦[e.arg2.view.set]{fullShare} e.X2) ∗ (e.arg6.view.loc (c : Thread nD τ) ↦[e.arg6.view.set]{fullShare} e.X6)
    ∗ (e.arg7.view.loc (c : Thread nD τ) ↦[e.arg7.view.set]{fullShare} e.X7) ∗ (e.arg4.view.loc (c : Thread nD τ) ↦[e.arg4.view.set]{fullShare} f4)
    ∗ (e.arg5.view.loc (c : Thread nD τ) ↦[e.arg5.view.set]{fullShare} f5))

variable {e} {𝒱 : Variants} {c : Dev nD} {bd : Option 𝒱.V} {E : Set ℕ}
  {f4 : BufTy.Contents (Elt F) e.arg4.view.ty} {f5 : BufTy.Contents (Elt F) e.arg5.view.ty}

theorem load0 {hl : e.arg0.view.LoadsAt (Rect.unit (s := S16x13824) (k0_off4 e.k) S16x512.size (k0_off4_inb e.k)).toLoadRect} :
    RO 𝒱 c bd E (res e c f4 f5) (Prog.lift (.load e.arg0 (Rect.unit (s := S16x13824) (k0_off4 e.k) S16x512.size (k0_off4_inb e.k)).toLoadRect hl) : Prog (TpuEff nD τ sig (Elt F) Λ₀ .tc) _) (rd0 e) (res e c f4 f5) := by
  refine RO.load e.arg0 e.X0 ?_
  unfold res
  iintro ⟨H0, H1, H2, H6, H7, H4, H5⟩
  isplitl [H0]; · iexact H0
  iintro H0
  isplitl [H0]; · iexact H0
  isplitl [H1]; · iexact H1
  isplitl [H2]; · iexact H2
  isplitl [H6]; · iexact H6
  isplitl [H7]; · iexact H7
  isplitl [H4]; · iexact H4
  iexact H5

theorem load1 {hl : e.arg1.view.LoadsAt (Rect.unit (s := S27x1x512) (k0_off5 e.k) S1x1x512.size (k0_off5_inb e.k)).toLoadRect} :
    RO 𝒱 c bd E (res e c f4 f5) (Prog.lift (.load e.arg1 (Rect.unit (s := S27x1x512) (k0_off5 e.k) S1x1x512.size (k0_off5_inb e.k)).toLoadRect hl) : Prog (TpuEff nD τ sig (Elt F) Λ₀ .tc) _) (rd1 e) (res e c f4 f5) := by
  refine RO.load e.arg1 e.X1 ?_
  unfold res
  iintro ⟨H0, H1, H2, H6, H7, H4, H5⟩
  isplitl [H1]; · iexact H1
  iintro H1
  isplitl [H0]; · iexact H0
  isplitl [H1]; · iexact H1
  isplitl [H2]; · iexact H2
  isplitl [H6]; · iexact H6
  isplitl [H7]; · iexact H7
  isplitl [H4]; · iexact H4
  iexact H5

theorem load2 {o : ℕ} {h : ∀ a, (![o, 0] : Fin 2 → ℕ) a + S64x16.size a ≤ S8192x16.size a} {hl : e.arg2.view.LoadsAt (Rect.unit (s := S8192x16) ![o, 0] S64x16.size h).toLoadRect} :
    RO 𝒱 c bd E (res e c f4 f5) (Prog.lift (.load e.arg2 (Rect.unit (s := S8192x16) ![o, 0] S64x16.size h).toLoadRect hl) : Prog (TpuEff nD τ sig (Elt F) Λ₀ .tc) _) (rd2 e o h) (res e c f4 f5) := by
  refine RO.load e.arg2 e.X2 ?_
  unfold res
  iintro ⟨H0, H1, H2, H6, H7, H4, H5⟩
  isplitl [H2]; · iexact H2
  iintro H2
  isplitl [H0]; · iexact H0
  isplitl [H1]; · iexact H1
  isplitl [H2]; · iexact H2
  isplitl [H6]; · iexact H6
  isplitl [H7]; · iexact H7
  isplitl [H4]; · iexact H4
  iexact H5

theorem load6 {o : ℕ} {h : ∀ a, (![o, 0] : Fin 2 → ℕ) a + S8x128.size a ≤ S8192x128.size a} {hl : e.arg6.view.LoadsAt (Rect.unit (s := S8192x128) ![o, 0] S8x128.size h).toLoadRect} :
    RO 𝒱 c bd E (res e c f4 f5) (Prog.lift (.load e.arg6 (Rect.unit (s := S8192x128) ![o, 0] S8x128.size h).toLoadRect hl) : Prog (TpuEff nD τ sig (Elt F) Λ₀ .tc) _) (rd6 e o h) (res e c f4 f5) := by
  refine RO.load e.arg6 e.X6 ?_
  unfold res
  iintro ⟨H0, H1, H2, H6, H7, H4, H5⟩
  isplitl [H6]; · iexact H6
  iintro H6
  isplitl [H0]; · iexact H0
  isplitl [H1]; · iexact H1
  isplitl [H2]; · iexact H2
  isplitl [H6]; · iexact H6
  isplitl [H7]; · iexact H7
  isplitl [H4]; · iexact H4
  iexact H5

theorem load7 {o : ℕ} {h : ∀ a, (![o, 0] : Fin 2 → ℕ) a + S8x128.size a ≤ S8192x128.size a} {hl : e.arg7.view.LoadsAt (Rect.unit (s := S8192x128) ![o, 0] S8x128.size h).toLoadRect} :
    RO 𝒱 c bd E (res e c f4 f5) (Prog.lift (.load e.arg7 (Rect.unit (s := S8192x128) ![o, 0] S8x128.size h).toLoadRect hl) : Prog (TpuEff nD τ sig (Elt F) Λ₀ .tc) _) (rd7 e o h) (res e c f4 f5) := by
  refine RO.load e.arg7 e.X7 ?_
  unfold res
  iintro ⟨H0, H1, H2, H6, H7, H4, H5⟩
  isplitl [H7]; · iexact H7
  iintro H7
  isplitl [H0]; · iexact H0
  isplitl [H1]; · iexact H1
  isplitl [H2]; · iexact H2
  isplitl [H6]; · iexact H6
  isplitl [H7]; · iexact H7
  isplitl [H4]; · iexact H4
  iexact H5

theorem load4 {r : LoadRect S27x1x512} {hl : e.arg4.view.LoadsAt r} :
    RO 𝒱 c bd E (res e c f4 f5) (Prog.lift (.load e.arg4 r hl) : Prog (TpuEff nD τ sig (Elt F) Λ₀ .tc) _) (e.arg4.view.readAt (Elt F) r f4) (res e c f4 f5) := by
  refine RO.load e.arg4 f4 ?_
  unfold res
  iintro ⟨H0, H1, H2, H6, H7, H4, H5⟩
  isplitl [H4]; · iexact H4
  iintro H4
  isplitl [H0]; · iexact H0
  isplitl [H1]; · iexact H1
  isplitl [H2]; · iexact H2
  isplitl [H6]; · iexact H6
  isplitl [H7]; · iexact H7
  isplitl [H4]; · iexact H4
  iexact H5

theorem store4 {r : Rect S27x1x512} {w : r.shape.Idx → Elt F .f32} {hx : (e.arg4.access r).Stores Finset.univ} {hm : Finset.univ = Finset.univ ∨ ∀ a, r.stride a = 1} :
    RO 𝒱 c bd E (res e c f4 f5) (Prog.lift (.store e.arg4 r w Finset.univ hx hm) : Prog (TpuEff nD τ sig (Elt F) Λ₀ .tc) _) PUnit.unit (res e c (e.arg4.view.writes (Elt F) f4 [⟨r, w⟩]) f5) := by
  refine RO.store e.arg4 f4 ?_
  unfold res
  iintro ⟨H0, H1, H2, H6, H7, H4, H5⟩
  isplitl [H4]; · iexact H4
  iintro H4
  isplitl [H0]; · iexact H0
  isplitl [H1]; · iexact H1
  isplitl [H2]; · iexact H2
  isplitl [H6]; · iexact H6
  isplitl [H7]; · iexact H7
  isplitl [H4]; · iexact H4
  iexact H5

theorem load5 {r : LoadRect S27x1x512} {hl : e.arg5.view.LoadsAt r} :
    RO 𝒱 c bd E (res e c f4 f5) (Prog.lift (.load e.arg5 r hl) : Prog (TpuEff nD τ sig (Elt F) Λ₀ .tc) _) (e.arg5.view.readAt (Elt F) r f5) (res e c f4 f5) := by
  refine RO.load e.arg5 f5 ?_
  unfold res
  iintro ⟨H0, H1, H2, H6, H7, H4, H5⟩
  isplitl [H5]; · iexact H5
  iintro H5
  isplitl [H0]; · iexact H0
  isplitl [H1]; · iexact H1
  isplitl [H2]; · iexact H2
  isplitl [H6]; · iexact H6
  isplitl [H7]; · iexact H7
  isplitl [H4]; · iexact H4
  iexact H5

theorem store5 {r : Rect S27x1x512} {w : r.shape.Idx → Elt F .f32} {hx : (e.arg5.access r).Stores Finset.univ} {hm : Finset.univ = Finset.univ ∨ ∀ a, r.stride a = 1} :
    RO 𝒱 c bd E (res e c f4 f5) (Prog.lift (.store e.arg5 r w Finset.univ hx hm) : Prog (TpuEff nD τ sig (Elt F) Λ₀ .tc) _) PUnit.unit (res e c f4 (e.arg5.view.writes (Elt F) f5 [⟨r, w⟩])) := by
  refine RO.store e.arg5 f5 ?_
  unfold res
  iintro ⟨H0, H1, H2, H6, H7, H4, H5⟩
  isplitl [H5]; · iexact H5
  iintro H5
  isplitl [H0]; · iexact H0
  isplitl [H1]; · iexact H1
  isplitl [H2]; · iexact H2
  isplitl [H6]; · iexact H6
  isplitl [H7]; · iexact H7
  isplitl [H4]; · iexact H4
  iexact H5

attribute [irreducible] fst snd

end tile

end Cert.KernelIdeal.Tile

end
-- ==== Proof.Build.lean ====
/- The kernel's first loop: it fills the two code tables, 128 codes a trip. Said by values: after `k`
   trips the first `128 k` rows of each table hold what the codes' scales and norms give. -/
module

public import proofs.«01_k».proof.Proof.Tile
public import Idealize.ShloMosaic.Lib.VecWindow
public import Idealize.ShloMosaic.Lib.ValueIdx

@[expose] public section

set_option synthInstance.maxSize 4096
set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

theorem inbScale (k : ℕ) (hk : k < 64) : ∀ a, (![k, 0] : Fin 2 → ℕ) a + S1x128.size a ≤ S64x128.size a := by
  intro a; fin_cases a <;> simp [S1x128, S64x128]; omega

theorem inbCodes (k : ℕ) (hk : k < 64) : ∀ a, (![128 * k, 0] : Fin 2 → ℕ) a + S128x16.size a ≤ S8192x16.size a := by
  intro a; fin_cases a <;> simp [S128x16, S8192x16]; omega

/-- Row `k` of the codes' scales. -/
def scaleRow (x3 : Vec F S64x128 .f32) (k : ℕ) (hk : k < 64) : Vec F S1x128 .f32 :=
  VecWindow.window (s := S64x128) x3 ![k, 0] S1x128.size (inbScale k hk)

/-- The 128 codes of block `k`. -/
def codeRows (x2 : Vec F S8192x16 .fp8e4m3) (k : ℕ) (hk : k < 64) : Vec F S128x16 .fp8e4m3 :=
  VecWindow.window (s := S8192x16) x2 ![128 * k, 0] S128x16.size (inbCodes k hk)

theorem block_lt (i : S8192x128.Idx) : (i 0).val / 128 < 64 := by
  have : (i 0).val < 8192 := (i 0).isLt
  omega

/-- The place of row `i` inside its block of 128. -/
def inBlock (i : S8192x128.Idx) : S128x128.Idx :=
  ValueIdx.ix2 (n0 := 128) (n1 := 128) ⟨(i 0).val % 128, Nat.mod_lt _ (by omega)⟩ (i 1)

/-- The table of twice the codes' scales. -/
def tab6 (x3 : Vec F S64x128 .f32) : Vec F S8192x128 .f32 :=
  fun i => k0_pay3 (scaleRow x3 _ (block_lt i)) (inBlock i)

/-- The table of the codes' norms. -/
def tab7 (x2 : Vec F S8192x16 .fp8e4m3) (x3 : Vec F S64x128 .f32) : Vec F S8192x128 .f32 :=
  fun i => k0_pay2 (scaleRow x3 _ (block_lt i)) (codeRows x2 _ (block_lt i)) (inBlock i)

/-- The first `n` rows of `x` are those of `y`. -/
def Rows (n : ℕ) (x y : Vec F S8192x128 .f32) : Prop := ∀ i : S8192x128.Idx, (i 0).val < n → x i = y i

variable {𝒱 : Variants} {c : Dev nD} {bd : Option 𝒱.V} {E : Set ℕ}
  (arg0 : Memref sig .tc .vmem S16x13824 .fp8e4m3) (harg0 : arg0.IsWhole) (arg1 : Memref sig .tc .vmem S27x1x512 .f32) (harg1 : arg1.IsWhole) (arg2 : Memref sig .tc .vmem S8192x16 .fp8e4m3) (harg2 : arg2.IsWhole) (arg3 : Memref sig .tc .vmem S64x128 .f32) (harg3 : arg3.IsWhole) (arg4 : Memref sig .tc .vmem S27x1x512 .f32) (harg4 : arg4.IsWhole) (arg5 : Memref sig .tc .vmem S27x1x512 .f32) (harg5 : arg5.IsWhole) (arg6 : Memref sig .tc .vmem S8192x128 .f32) (harg6 : arg6.IsWhole) (arg7 : Memref sig .tc .vmem S8192x128 .f32) (harg7 : arg7.IsWhole)

/-- What the first loop holds. -/
def res1 (c : Dev nD) (X2 : BufTy.Contents (Elt F) arg2.view.ty) (X3 : BufTy.Contents (Elt F) arg3.view.ty)
    (f6 : BufTy.Contents (Elt F) arg6.view.ty) (f7 : BufTy.Contents (Elt F) arg7.view.ty) : sProp (MT nD τ sig Unit (Elt F) ℕ (UR sig nD τ) ℕ) :=
  iprop((arg2.view.loc (c : Thread nD τ) ↦[arg2.view.set]{fullShare} X2) ∗ (arg3.view.loc (c : Thread nD τ) ↦[arg3.view.set]{fullShare} X3)
    ∗ (arg6.view.loc (c : Thread nD τ) ↦[arg6.view.set]{fullShare} f6) ∗ (arg7.view.loc (c : Thread nD τ) ↦[arg7.view.set]{fullShare} f7))

/-- One table after trip `k` stored `w` over its block. -/
def after1 (m : Memref sig .tc .vmem S8192x128 .f32) (f : BufTy.Contents (Elt F) m.view.ty) (k : Fin k0_t1_loop.trips) (w : FVec F S128x128 .f32) :
    BufTy.Contents (Elt F) m.view.ty :=
  m.view.writes (Elt F) f [⟨Rect.unit (s := S8192x128) (k0_off3 k) S128x128.size (k0_off3_inb k), w⟩]

theorem trips1 (k : Fin k0_t1_loop.trips) : k.val < 64 := Nat.lt_of_lt_of_le k.isLt k0_t1_abs.2.1

/-- One trip of the first loop. -/
theorem trip1 (k : Fin k0_t1_loop.trips) (X2 : BufTy.Contents (Elt F) arg2.view.ty) (X3 : BufTy.Contents (Elt F) arg3.view.ty)
    (f6 : BufTy.Contents (Elt F) arg6.view.ty) (f7 : BufTy.Contents (Elt F) arg7.view.ty) :
    RO 𝒱 c bd E (res1 arg2 arg3 arg6 arg7 c X2 X3 f6 f7)
      (k0_t1_body (F := F) arg0 harg0 arg1 harg1 arg2 harg2 arg3 harg3 arg4 harg4 arg5 harg5 arg6 harg6 arg7 harg7 k PUnit.unit) PUnit.unit
      (res1 arg2 arg3 arg6 arg7 c X2 X3
        (after1 arg6 f6 k (k0_pay3 (scaleRow (arg3.view.read (Elt F) X3) k.val (trips1 k))))
        (after1 arg7 f7 k (k0_pay2 (scaleRow (arg3.view.read (Elt F) X3) k.val (trips1 k)) (codeRows (arg2.view.read (Elt F) X2) k.val (trips1 k))))) := by
  have e3 : arg3.view.readAt (Elt F) (Rect.unit (s := S64x128) (k0_off1 k) S1x128.size (k0_off1_inb k)).toLoadRect X3
      = scaleRow (arg3.view.read (Elt F) X3) k.val (trips1 k) := View.readAt_unit _ _ _ (k0_off1_eq k) _
  have e2 : arg2.view.readAt (Elt F) (Rect.unit (s := S8192x16) (k0_off2 k) S128x16.size (k0_off2_inb k)).toLoadRect X2
      = codeRows (arg2.view.read (Elt F) X2) k.val (trips1 k) := View.readAt_unit _ _ _ (k0_off2_eq k) _
  rw [← e3, ← e2]
  unfold k0_t1_body
  refine RO.bind (RO.load arg3 X3 (by
    unfold res1; iintro ⟨H2, H3, H6, H7⟩; isplitl [H3]; · iexact H3
    iintro H3; isplitl [H2]; · iexact H2
    isplitl [H3]; · iexact H3
    isplitl [H6]; · iexact H6
    iexact H7)) ?_
  refine RO.bind (RO.load arg2 X2 (by
    unfold res1; iintro ⟨H2, H3, H6, H7⟩; isplitl [H2]; · iexact H2
    iintro H2; isplitl [H2]; · iexact H2
    isplitl [H3]; · iexact H3
    isplitl [H6]; · iexact H6
    iexact H7)) ?_
  refine RO.bind (RO.load arg7 f7 (by
    unfold res1; iintro ⟨H2, H3, H6, H7⟩; isplitl [H7]; · iexact H7
    iintro H7; isplitl [H2]; · iexact H2
    isplitl [H3]; · iexact H3
    isplitl [H6]; · iexact H6
    iexact H7)) ?_
  refine RO.bind (RO.store (P' := res1 arg2 arg3 arg6 arg7 c X2 X3 f6 (after1 arg7 f7 k (k0_pay2 _ _))) arg7 f7 (by
    unfold res1; iintro ⟨H2, H3, H6, H7⟩; isplitl [H7]; · iexact H7
    iintro H7; isplitl [H2]; · iexact H2
    isplitl [H3]; · iexact H3
    isplitl [H6]; · iexact H6
    unfold after1; iexact H7)) ?_
  refine RO.bind (RO.load arg6 f6 (by
    unfold res1; iintro ⟨H2, H3, H6, H7⟩; isplitl [H6]; · iexact H6
    iintro H6; isplitl [H2]; · iexact H2
    isplitl [H3]; · iexact H3
    isplitl [H6]; · iexact H6
    iexact H7)) ?_
  refine RO.bind (RO.store (P' := res1 arg2 arg3 arg6 arg7 c X2 X3 (after1 arg6 f6 k (k0_pay3 _)) (after1 arg7 f7 k (k0_pay2 _ _))) arg6 f6 (by
    unfold res1; iintro ⟨H2, H3, H6, H7⟩; isplitl [H6]; · iexact H6
    iintro H6; isplitl [H2]; · iexact H2
    isplitl [H3]; · iexact H3
    isplitl [H6]; · unfold after1; iexact H6
    iexact H7)) ?_
  exact RO.ret rfl

/-- A trip fills its block and keeps the rows before it. -/
theorem rows_after1 (m : Memref sig .tc .vmem S8192x128 .f32) (f : BufTy.Contents (Elt F) m.view.ty) (k : Fin k0_t1_loop.trips) (w : FVec F S128x128 .f32)
    (y : Vec F S8192x128 .f32) (hf : Rows (128 * k.val) (m.view.read (Elt F) f) y)
    (hw : ∀ i : S8192x128.Idx, (i 0).val / 128 = k.val → w (inBlock i) = y i) :
    Rows (128 * (k.val + 1)) (m.view.read (Elt F) (after1 m f k w)) y := by
  intro i hi
  unfold after1
  by_cases h : (i 0).val < 128 * k.val
  · refine (View.read_writes_cons_unit_of_not_mem (size := S128x128.size) m.view f (k0_off3_inb k) w [] i (k0_off3_eq k) 0 (.inl h)).trans ?_
    rw [View.writes_nil]
    exact hf i h
  · rw [← hw i (by omega)]
    refine View.read_writes_cons_unit_of_mem m.view f _ w [] i (inBlock i) (k0_off3_eq k) fun a => ?_
    fin_cases a
    · show (i 0).val = 128 * k.val + (i 0).val % 128
      omega
    · show (i 1).val = 0 + (i 1).val
      omega

/-- What holds before trip `k` of the first loop: the rows of the trips before are filled. -/
def inv1 (c : Dev nD) (x2 : Vec F S8192x16 .fp8e4m3) (x3 : Vec F S64x128 .f32) (X2 : BufTy.Contents (Elt F) arg2.view.ty) (X3 : BufTy.Contents (Elt F) arg3.view.ty)
    (k : ℕ) (_ : Unit) : sProp (MT nD τ sig Unit (Elt F) ℕ (UR sig nD τ) ℕ) :=
  iprop(∃ f6 f7, res1 arg2 arg3 arg6 arg7 c X2 X3 f6 f7
    ∗ ⌜Rows (128 * k) (arg6.view.read (Elt F) f6) (tab6 x3) ∧ Rows (128 * k) (arg7.view.read (Elt F) f7) (tab7 x2 x3)⌝)

theorem scaleRow_congr (x3 : Vec F S64x128 .f32) {k k' : ℕ} (h : k = k') (hk : k < 64) (hk' : k' < 64) : scaleRow x3 k hk = scaleRow x3 k' hk' := by
  subst h; rfl
theorem codeRows_congr (x2 : Vec F S8192x16 .fp8e4m3) {k k' : ℕ} (h : k = k') (hk : k < 64) (hk' : k' < 64) : codeRows x2 k hk = codeRows x2 k' hk' := by
  subst h; rfl

theorem step1 (x2 : Vec F S8192x16 .fp8e4m3) (x3 : Vec F S64x128 .f32) (X2 : BufTy.Contents (Elt F) arg2.view.ty) (X3 : BufTy.Contents (Elt F) arg3.view.ty)
    (h2 : arg2.view.read (Elt F) X2 = x2) (h3 : arg3.view.read (Elt F) X3 = x3) (k : Fin k0_t1_loop.trips) (acc : Unit) :
    inv1 arg2 arg3 arg6 arg7 c x2 x3 X2 X3 k.val acc
      ⊢ wp frame (wpE (defs₀ (F := F)) 𝒱 (c : Thread nD τ) bd) E
          (k0_t1_body (F := F) arg0 harg0 arg1 harg1 arg2 harg2 arg3 harg3 arg4 harg4 arg5 harg5 arg6 harg6 arg7 harg7 k acc)
          (inv1 arg2 arg3 arg6 arg7 c x2 x3 X2 X3 (k.val + 1)) := by
  have ht := fun f6 f7 => trip1 (𝒱 := 𝒱) (c := c) (bd := bd) (E := E) arg0 harg0 arg1 harg1 arg2 harg2 arg3 harg3 arg4 harg4 arg5 harg5 arg6 harg6 arg7 harg7 k X2 X3 f6 f7
  rw [h2, h3] at ht
  unfold inv1
  iintro ⟨%f6, %f7, H, %hr⟩
  refine ht f6 f7 _ ?_
  iintro H
  iexists _, _
  isplitl [H]; · iexact H
  ipureintro
  constructor
  · refine rows_after1 arg6 f6 k _ _ hr.1 fun i hi => ?_
    unfold tab6
    rw [scaleRow_congr x3 hi]
  · refine rows_after1 arg7 f7 k _ _ hr.2 fun i hi => ?_
    unfold tab7
    rw [scaleRow_congr x3 hi, codeRows_congr x2 hi]

theorem trips1_eq : k0_t1_loop.trips = 64 := by decide +kernel

/-- All rows are filled after the loop. -/
theorem rows_all {x y : Vec F S8192x128 .f32} (h : Rows (128 * k0_t1_loop.trips) x y) : x = y := by
  funext i
  refine h i ?_
  rw [trips1_eq]
  exact (i 0).isLt

end Cert.KernelIdeal.Tile

end
-- ==== Proof.Out.lean ====
/- What the two outputs of the kernel hold, as functions of the blocks it is given, and how one trip of
   the token loop fills its row. -/
module

public import proofs.«01_k».proof.Proof.Build
public import Idealize.ShloMosaic.Lib.Pointwise

@[expose] public section

set_option synthInstance.maxSize 4096
set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

theorem trips2_eq : k0_t2_loop.trips = 27 := by decide +kernel

/-- The trip that fills the row of `i`. -/
def tileOf (i : S27x1x512.Idx) : Fin k0_t2_loop.trips := ⟨(i 0).val, by rw [trips2_eq]; exact (i 0).isLt⟩

/-- The lane group of `i`. -/
def groupOf (i : S27x1x512.Idx) : Fin 4 := ⟨(i 2).val / 128, by
  have : (i 2).val < 512 := (i 2).isLt
  omega⟩

/-- The place of `i` in its lane group. -/
def laneOf (i : S27x1x512.Idx) : S1x128.Idx :=
  ValueIdx.ix2 (n0 := 1) (n1 := 128) 0 ⟨(i 2).val % 128, Nat.mod_lt _ (by omega)⟩

section out
variable (arg0 : Memref sig .tc .vmem S16x13824 .fp8e4m3) (harg0 : arg0.IsWhole) (arg1 : Memref sig .tc .vmem S27x1x512 .f32) (harg1 : arg1.IsWhole) (arg2 : Memref sig .tc .vmem S8192x16 .fp8e4m3) (harg2 : arg2.IsWhole) (arg4 : Memref sig .tc .vmem S27x1x512 .f32) (arg5 : Memref sig .tc .vmem S27x1x512 .f32) (arg6 : Memref sig .tc .vmem S8192x128 .f32) (harg6 : arg6.IsWhole) (arg7 : Memref sig .tc .vmem S8192x128 .f32) (harg7 : arg7.IsWhole)
  (x0 : Vec F S16x13824 .fp8e4m3) (x1 : Vec F S27x1x512 .f32) (x2 : Vec F S8192x16 .fp8e4m3) (x3 : Vec F S64x128 .f32)

/-- The buffers as trip `k` of the token loop finds them. -/
def envAt (k : Fin k0_t2_loop.trips) : Env F where
  arg0 := arg0
  arg1 := arg1
  arg2 := arg2
  arg6 := arg6
  arg7 := arg7
  arg4 := arg4
  arg5 := arg5
  X0 := harg0.unread x0
  X1 := harg1.unread x1
  X2 := harg2.unread x2
  X6 := harg6.unread (tab6 x3)
  X7 := harg7.unread (tab7 x2 x3)
  k := k

/-- The smallest distances. -/
def outMin : Vec F S27x1x512 .f32 := fun i =>
  outA (envAt arg0 harg0 arg1 harg1 arg2 harg2 arg4 arg5 arg6 harg6 arg7 harg7 x0 x1 x2 x3 (tileOf i)) (groupOf i) (laneOf i)

/-- The second smallest less the smallest. -/
def outGap : Vec F S27x1x512 .f32 := fun i =>
  outB (envAt arg0 harg0 arg1 harg1 arg2 harg2 arg4 arg5 arg6 harg6 arg7 harg7 x0 x1 x2 x3 (tileOf i)) (groupOf i) (laneOf i)

end out

/-- The first `n` rows of `x` are those of `y`. -/
def Rows3 (n : ℕ) (x y : Vec F S27x1x512 .f32) : Prop := ∀ i : S27x1x512.Idx, (i 0).val < n → x i = y i

theorem cast3 (w : FVec F S1x128 .f32) (l : Fin 128) :
    shapeCast S1x1x128 w shapeCasts_S1x128_S1x1x128 (ValueIdx.ix3 (n0 := 1) (n1 := 1) (n2 := 128) 0 0 l) = w (ValueIdx.ix2 (n0 := 1) (n1 := 128) 0 l) := by
  unfold shapeCast
  pointwise
  refine congrArg w (funext fun a => ?_)
  match a with
  | ⟨0, _⟩ => rfl
  | ⟨1, _⟩ => rfl

/-- Reading one of a trip's four stores: its lane group holds the payload, the rest is as it was. -/
theorem read_group (m : Memref sig .tc .vmem S27x1x512 .f32) (f : BufTy.Contents (Elt F) m.view.ty) (k b : ℕ) (off : Fin 3 → ℕ)
    (inb : ∀ a, off a + S1x1x128.size a ≤ S27x1x512.size a) (ho : off = ![k, 0, b]) (w : FVec F S1x128 .f32) (i : S27x1x512.Idx) :
    m.view.read (Elt F) (m.view.writes (Elt F) f [⟨Rect.unit (s := S27x1x512) off S1x1x128.size inb, shapeCast S1x1x128 w shapeCasts_S1x128_S1x1x128⟩]) i
      = if (i 0).val = k ∧ b ≤ (i 2).val ∧ (i 2).val < b + 128 then w (ValueIdx.ix2 (n0 := 1) (n1 := 128) 0 ⟨((i 2).val - b) % 128, Nat.mod_lt _ (by omega)⟩) else m.view.read (Elt F) f i := by
  have h1 : (i 1).val < 1 := (i 1).isLt
  split
  case isTrue h =>
    refine Eq.trans ?_ (cast3 w _)
    refine View.read_writes_cons_unit_of_mem m.view f inb _ [] i _ ho fun a => ?_
    match a with
    | ⟨0, _⟩ => show (i 0).val = k + 0; omega
    | ⟨1, _⟩ => show (i 1).val = 0 + 0; omega
    | ⟨2, _⟩ => show (i 2).val = b + ((i 2).val - b) % 128; omega
  case isFalse h =>
    by_cases h0 : (i 0).val = k
    · refine (View.read_writes_cons_unit_of_not_mem (size := S1x1x128.size) m.view f inb _ [] i ho 2 ?_).trans (by rw [View.writes_nil])
      show (i 2).val < b ∨ b + 128 ≤ (i 2).val
      omega
    · refine (View.read_writes_cons_unit_of_not_mem (size := S1x1x128.size) m.view f inb _ [] i ho 0 ?_).trans (by rw [View.writes_nil])
      show (i 0).val < k ∨ k + 1 ≤ (i 0).val
      omega

/-- A trip fills its row and keeps the rows before it. -/
theorem rows_put (e : Env F) (m : Memref sig .tc .vmem S27x1x512 .f32) (f : BufTy.Contents (Elt F) m.view.ty) (w : Fin 4 → FVec F S1x128 .f32)
    (y : Vec F S27x1x512 .f32) (hf : Rows3 e.k.val (m.view.read (Elt F) f) y)
    (hw : ∀ i : S27x1x512.Idx, tileOf i = e.k → w (groupOf i) (laneOf i) = y i) :
    Rows3 (e.k.val + 1) (m.view.read (Elt F) (put e f w)) y := by
  intro i hi
  have h2 : (i 2).val < 512 := (i 2).isLt
  unfold put
  rw [read_group m _ _ _ _ _ (k0_off9_eq e.k), read_group m _ _ _ _ _ (k0_off8_eq e.k), read_group m _ _ _ _ _ (k0_off7_eq e.k), read_group m _ _ _ _ _ (k0_off6_eq e.k)]
  by_cases h : (i 0).val = e.k.val
  · rw [← hw i (Fin.ext h)]
    have key : ∀ (g : Fin 4) (b : ℕ) (hb : b = 128 * g.val) (hg : b ≤ (i 2).val ∧ (i 2).val < b + 128),
        w g (ValueIdx.ix2 (n0 := 1) (n1 := 128) 0 ⟨((i 2).val - b) % 128, Nat.mod_lt _ (by omega)⟩) = w (groupOf i) (laneOf i) := by
      intro g b hb hg
      have e1 : groupOf i = g := Fin.ext (by show (i 2).val / 128 = g.val; omega)
      rw [e1]
      refine congrArg (w g) ?_
      unfold laneOf
      refine congrArg _ (Fin.ext ?_)
      show ((i 2).val - b) % 128 = (i 2).val % 128
      omega
    by_cases h3 : 384 ≤ (i 2).val
    · rw [if_pos ⟨h, h3, by omega⟩]; exact key 3 384 rfl (by omega)
    rw [if_neg (by omega)]
    by_cases h4 : 256 ≤ (i 2).val
    · rw [if_pos ⟨h, h4, by omega⟩]; exact key 2 256 rfl (by omega)
    rw [if_neg (by omega)]
    by_cases h5 : 128 ≤ (i 2).val
    · rw [if_pos ⟨h, h5, by omega⟩]; exact key 1 128 rfl (by omega)
    rw [if_neg (by omega), if_pos ⟨h, by omega, by omega⟩]
    exact key 0 0 rfl (by omega)
  · rw [if_neg (by omega), if_neg (by omega), if_neg (by omega), if_neg (by omega)]
    exact hf i (by omega)

/-- All rows are filled after the loop. -/
theorem rows3_all {x y : Vec F S27x1x512 .f32} (h : Rows3 k0_t2_loop.trips x y) : x = y := by
  funext i
  refine h i ?_
  rw [trips2_eq]
  exact (i 0).isLt

end Cert.KernelIdeal.Tile

end
-- ==== Proof.Trip.lean ====
/- One trip of the token loop, followed statement by statement: the running values of each part are
   named as it ends, so that nothing grows with the number of codes. -/
module

public import proofs.«01_k».proof.Proof.Tile

@[expose] public section

set_option synthInstance.maxSize 4096

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]
variable {e : Tile.Env F} {𝒱 : Variants} {c : Dev nD} {bd : Option 𝒱.V} {E : Set ℕ}
  {f4 : BufTy.Contents (Elt F) e.arg4.view.ty} {f5 : BufTy.Contents (Elt F) e.arg5.view.ty}

-- the body has some thirty thousand statements
set_option maxHeartbeats 0
set_option maxRecDepth 100000

/-- A trip stores each token's smallest distance, and the second smallest less it. -/
theorem trip (h0 : e.arg0.IsWhole) (h1 : e.arg1.IsWhole) (h2 : e.arg2.IsWhole) (arg3 : Memref sig .tc .vmem S64x128 .f32) (h3 : arg3.IsWhole)
    (h4 : e.arg4.IsWhole) (h5 : e.arg5.IsWhole) (h6 : e.arg6.IsWhole) (h7 : e.arg7.IsWhole) :
    RO 𝒱 c bd E (res e c f4 f5) (k0_t2_body (F := F) e.arg0 h0 e.arg1 h1 e.arg2 h2 arg3 h3 e.arg4 h4 e.arg5 h5 e.arg6 h6 e.arg7 h7 e.k PUnit.unit)
      PUnit.unit (res e c (put e f4 (outA e)) (put e f5 (outB e))) := by
  apply RO.post
  on_goal 1 =>
    repeat' (first
    | with_reducible exact load6 | with_reducible exact load7 | with_reducible exact load2 | with_reducible exact load0 | with_reducible exact load1
    | with_reducible exact load4 | with_reducible exact load5 | with_reducible exact store4 | with_reducible exact store5
    | with_reducible apply RO.bind
    | with_reducible apply RO.ret
    | with_reducible apply mk_congr
    | apply RO.bind
    | (simp (disch := exact keep rfl) only [xt_eq, xs_eq, sb0, sb1, sb2, sb3, inf_eq, fst_step, snd_step, fst_one, snd_one, Nat.reduceAdd]; done)
    | (simp (disch := exact keep rfl) only [xt_eq, xs_eq, sb0, sb1, sb2, sb3, inf_eq, fst_step, snd_step, fst_one, snd_one, Nat.reduceAdd]; with_reducible exact rfl)
    | with_reducible exact rfl)
  rfl

end Cert.KernelIdeal.Tile

end
-- ==== Proof.Run.lean ====
/- The whole body of the kernel: the two loops by their invariants, from any contents of the scratch
   tables and the outputs to the outputs' values. -/
module

public import proofs.«01_k».proof.Proof.Out
public import proofs.«01_k».proof.Proof.Trip

@[expose] public section

set_option synthInstance.maxSize 4096
set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

variable {𝒱 : Variants} {c : Dev nD} {bd : Option 𝒱.V} {E : Set ℕ}
  (arg0 : Memref sig .tc .vmem S16x13824 .fp8e4m3) (harg0 : arg0.IsWhole) (arg1 : Memref sig .tc .vmem S27x1x512 .f32) (harg1 : arg1.IsWhole) (arg2 : Memref sig .tc .vmem S8192x16 .fp8e4m3) (harg2 : arg2.IsWhole) (arg3 : Memref sig .tc .vmem S64x128 .f32) (harg3 : arg3.IsWhole) (arg4 : Memref sig .tc .vmem S27x1x512 .f32) (harg4 : arg4.IsWhole) (arg5 : Memref sig .tc .vmem S27x1x512 .f32) (harg5 : arg5.IsWhole) (arg6 : Memref sig .tc .vmem S8192x128 .f32) (harg6 : arg6.IsWhole) (arg7 : Memref sig .tc .vmem S8192x128 .f32) (harg7 : arg7.IsWhole)
  (x0 : Vec F S16x13824 .fp8e4m3) (x1 : Vec F S27x1x512 .f32) (x2 : Vec F S8192x16 .fp8e4m3) (x3 : Vec F S64x128 .f32)

/-- What holds before trip `k` of the token loop: the tables are full, the rows of the trips before
    are filled in both outputs. -/
def inv2 (c : Dev nD) (k : ℕ) (_ : Unit) : sProp (MT nD τ sig Unit (Elt F) ℕ (UR sig nD τ) ℕ) :=
  iprop(∃ f4 f5, ((arg0.view.loc (c : Thread nD τ) ↦[arg0.view.set]{fullShare} harg0.unread x0) ∗ (arg1.view.loc (c : Thread nD τ) ↦[arg1.view.set]{fullShare} harg1.unread x1)
      ∗ (arg2.view.loc (c : Thread nD τ) ↦[arg2.view.set]{fullShare} harg2.unread x2) ∗ (arg6.view.loc (c : Thread nD τ) ↦[arg6.view.set]{fullShare} harg6.unread (tab6 x3))
      ∗ (arg7.view.loc (c : Thread nD τ) ↦[arg7.view.set]{fullShare} harg7.unread (tab7 x2 x3)) ∗ (arg4.view.loc (c : Thread nD τ) ↦[arg4.view.set]{fullShare} f4)
      ∗ (arg5.view.loc (c : Thread nD τ) ↦[arg5.view.set]{fullShare} f5))
    ∗ ⌜Rows3 k (arg4.view.read (Elt F) f4) (outMin arg0 harg0 arg1 harg1 arg2 harg2 arg4 arg5 arg6 harg6 arg7 harg7 x0 x1 x2 x3)
      ∧ Rows3 k (arg5.view.read (Elt F) f5) (outGap arg0 harg0 arg1 harg1 arg2 harg2 arg4 arg5 arg6 harg6 arg7 harg7 x0 x1 x2 x3)⌝)

theorem step2 (k : Fin k0_t2_loop.trips) (acc : Unit) :
    inv2 arg0 harg0 arg1 harg1 arg2 harg2 arg4 arg5 arg6 harg6 arg7 harg7 x0 x1 x2 x3 c k.val acc
      ⊢ wp frame (wpE (defs₀ (F := F)) 𝒱 (c : Thread nD τ) bd) E
          (k0_t2_body (F := F) arg0 harg0 arg1 harg1 arg2 harg2 arg3 harg3 arg4 harg4 arg5 harg5 arg6 harg6 arg7 harg7 k acc)
          (inv2 arg0 harg0 arg1 harg1 arg2 harg2 arg4 arg5 arg6 harg6 arg7 harg7 x0 x1 x2 x3 c (k.val + 1)) := by
  have ht := fun (f4 : BufTy.Contents (Elt F) arg4.view.ty) (f5 : BufTy.Contents (Elt F) arg5.view.ty) => trip (e := envAt arg0 harg0 arg1 harg1 arg2 harg2 arg4 arg5 arg6 harg6 arg7 harg7 x0 x1 x2 x3 k)
    (𝒱 := 𝒱) (c := c) (bd := bd) (E := E) (f4 := f4) (f5 := f5) harg0 harg1 harg2 arg3 harg3 harg4 harg5 harg6 harg7
  unfold res at ht
  dsimp only [envAt] at ht
  cases acc
  unfold inv2
  iintro ⟨%f4, %f5, H, %hr⟩
  refine ht f4 f5 _ ?_
  iintro H
  iexists _, _
  isplitl [H]; · iexact H
  ipureintro
  constructor
  · refine rows_put (envAt arg0 harg0 arg1 harg1 arg2 harg2 arg4 arg5 arg6 harg6 arg7 harg7 x0 x1 x2 x3 k) arg4 f4 _ _ hr.1 fun i hi => ?_
    unfold outMin
    rw [hi]; rfl
  · refine rows_put (envAt arg0 harg0 arg1 harg1 arg2 harg2 arg4 arg5 arg6 harg6 arg7 harg7 x0 x1 x2 x3 k) arg5 f5 _ _ hr.2 fun i hi => ?_
    unfold outGap
    rw [hi]; rfl

attribute [local irreducible] k0_t2_body

theorem loop2 {Q : Unit → sProp (MT nD τ sig Unit (Elt F) ℕ (UR sig nD τ) ℕ)} :
    iprop(inv2 arg0 harg0 arg1 harg1 arg2 harg2 arg4 arg5 arg6 harg6 arg7 harg7 x0 x1 x2 x3 c 0 ⟨⟩
        ∗ (∀ acc, inv2 arg0 harg0 arg1 harg1 arg2 harg2 arg4 arg5 arg6 harg6 arg7 harg7 x0 x1 x2 x3 c k0_t2_loop.trips acc -∗ Q acc))
      ⊢ wp frame (wpE (defs₀ (F := F)) 𝒱 (c : Thread nD τ) bd) E
          (Scf.Loop.for k0_t2_loop k0_t2_ok ⟨⟩ (k0_t2_body (F := F) arg0 harg0 arg1 harg1 arg2 harg2 arg3 harg3 arg4 harg4 arg5 harg5 arg6 harg6 arg7 harg7)) Q :=
  Scf.wp_for frame (wpE (defs₀ (F := F)) 𝒱 (c : Thread nD τ) bd) E k0_t2_loop.lb k0_t2_loop.ub k0_t2_loop.st k0_t2_ok ⟨⟩ _
    (inv2 arg0 harg0 arg1 harg1 arg2 harg2 arg4 arg5 arg6 harg6 arg7 harg7 x0 x1 x2 x3 c)
    (step2 arg0 harg0 arg1 harg1 arg2 harg2 arg3 harg3 arg4 harg4 arg5 harg5 arg6 harg6 arg7 harg7 x0 x1 x2 x3)

set_option maxHeartbeats 4000000 in
/-- The body, on whole buffers: the inputs as they were, the outputs at their values. -/
theorem run (c : Dev nD) (E : Set ℕ) (K : PUnit → sProp (MT nD τ sig Unit (Elt F) ℕ (UR sig nD τ) ℕ)) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
          ∗ owns (c : Thread nD τ) arg4 fullShare (outMin arg0 harg0 arg1 harg1 arg2 harg2 arg4 arg5 arg6 harg6 arg7 harg7 x0 x1 x2 x3)
          ∗ owns (c : Thread nD τ) arg5 fullShare (outGap arg0 harg0 arg1 harg1 arg2 harg2 arg4 arg5 arg6 harg6 arg7 harg7 x0 x1 x2 x3)
          ∗ (∃ d, owns (c : Thread nD τ) arg6 fullShare d) ∗ (∃ d, owns (c : Thread nD τ) arg7 fullShare d)) -∗ K ⟨⟩))
      ⊢ wp frame (wpE (defs₀ (F := F)) Variants.none c none) E (cc0_nearest arg0 harg0 arg1 harg1 arg2 harg2 arg3 harg3 arg4 harg4 arg5 harg5 arg6 harg6 arg7 harg7) K := by
  rw [cc0_nearest_eq_skeleton]; unfold cc0_nearest_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, H6⟩, ⟨%ds1, %fs1, -, H7⟩, Hk⟩
  obtain rfl := harg0.eq_unread hf0; obtain rfl := harg1.eq_unread hf1; obtain rfl := harg2.eq_unread hf2; obtain rfl := harg3.eq_unread hf3
  rw [wp_bind]
  iapply (Scf.wp_for frame (wpE (defs₀ (F := F)) Variants.none (c : Thread nD τ) none) E k0_t1_loop.lb k0_t1_loop.ub k0_t1_loop.st k0_t1_ok ⟨⟩ _
    (inv1 arg2 arg3 arg6 arg7 c x2 x3 (harg2.unread x2) (harg3.unread x3))
    (step1 arg0 harg0 arg1 harg1 arg2 harg2 arg3 harg3 arg4 harg4 arg5 harg5 arg6 harg6 arg7 harg7 x2 x3 _ _ (harg2.read_unread x2) (harg3.read_unread x3)))
  isplitl [H2 H3 H6 H7]
  · unfold inv1 res1
    iexists fs0, fs1
    isplitl [H2 H3 H6 H7]
    · isplitl [H2]; · iexact H2
      isplitl [H3]; · iexact H3
      isplitl [H6]; · iexact H6
      iexact H7
    ipureintro
    exact ⟨fun i hi => absurd hi (by omega), fun i hi => absurd hi (by omega)⟩
  iintro %_ HI
  unfold inv1 res1
  icases HI with ⟨%f6, %f7, ⟨H2, H3, H6, H7⟩, %hr⟩
  obtain rfl := harg6.eq_unread (rows_all hr.1)
  obtain rfl := harg7.eq_unread (rows_all hr.2)
  rw [wp_bind]
  iapply (loop2 arg0 harg0 arg1 harg1 arg2 harg2 arg3 harg3 arg4 harg4 arg5 harg5 arg6 harg6 arg7 harg7 x0 x1 x2 x3)
  isplitl [H0 H1 H2 H4 H5 H6 H7]
  · unfold inv2
    iexists f4, f5
    isplitl [H0 H1 H2 H4 H5 H6 H7]
    · isplitl [H0]; · iexact H0
      isplitl [H1]; · iexact H1
      isplitl [H2]; · iexact H2
      isplitl [H6]; · iexact H6
      isplitl [H7]; · iexact H7
      isplitl [H4]; · iexact H4
      iexact H5
    ipureintro
    exact ⟨fun i hi => absurd hi (by omega), fun i hi => absurd hi (by omega)⟩
  iintro %_ HI
  unfold inv2
  icases HI with ⟨%g4, %g5, ⟨H0, H1, H2, H6, H7, H4, H5⟩, %hs⟩
  iapply (le_wp_ret _ _ _ _ K)
  iapply Hk
  isplitl [H0]
  · iexists _; isplitr; swap; · iexact H0
    ipureintro; exact harg0.read_unread _
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact rows3_all hs.1
  isplitl [H5]
  · iexists _; isplitr; swap; · iexact H5
    ipureintro; exact rows3_all hs.2
  isplitl [H6]
  · iexists _, _; isplitr; swap; · iexact H6
    ipureintro; rfl
  iexists _, _; isplitr; swap; · iexact H7
  ipureintro; rfl

end Cert.KernelIdeal.Tile

end
-- ==== Proof.Whole.lean ====
/- The whole program round the kernel: the proof data of its one launch, with the outputs at their
   values, the body obligation, the run and the frame. -/
module

public import proofs.«01_k».proof.Proof.Run
public import proofs.«01_k».proof.Proof.Gen.KernelIdeal.Frame.Runs
public import Idealize.ShloMosaic.Lib.Claim

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- What the outputs' staging buffers hold after the body at point `t` (as a tuple, in window order): the run's contents at
    the point's memrefs and input blocks. -/
def outsAt0 (c : Dev nD) (t : Fin cfg0.N) : Vec F S27x1x512 .f32 × Vec F S27x1x512 .f32 :=
  (Tile.outMin (ms0_0 t) (hs0_0 t) (ms0_1 t) (hs0_1 t) (ms0_2 t) (hs0_2 t) (ms0_4 t) (ms0_5 t) scM0_0 (Memref.isWhole_whole _) scM0_1 (Memref.isWhole_whole _) (iblk m c 0 t) (iblk m c 1 t) (iblk m c 2 t) (iblk m c 3 t),
   Tile.outGap (ms0_0 t) (hs0_0 t) (ms0_1 t) (hs0_1 t) (ms0_2 t) (hs0_2 t) (ms0_4 t) (ms0_5 t) scM0_0 (Memref.isWhole_whole _) scM0_1 (Memref.isWhole_whole _) (iblk m c 0 t) (iblk m c 1 t) (iblk m c 2 t) (iblk m c 3 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t).1
    | ⟨5, _⟩ => (outsAt0 m c t).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t).1 := by dsimp only [dats]
theorem after0_5 (c : Dev nD) (t : Fin cfg0.N) : (dats m 0 c).after 5 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold outsAt0
  dsimp only
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (Tile.run (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) c Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- The launch: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame claim, at any values: the program ends, its arguments unchanged, all counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Whole

end
-- ==== Proof.Same.lean ====
/- The program and its ideal form are the same text, so the frame proved of the one, for any floats, is the
   frame of the other. -/
module

public import proofs.«01_k».proof.Proof.Whole
public import proofs.«01_k».proof.Proof.Gen.Kernel
public import proofs.«01_k».proof.Defs

@[expose] public section

set_option maxRecDepth 100000
set_option maxHeartbeats 0

namespace Cert.Same

open Idealize.ShloMosaic

attribute [local instance] Cert.Kernel.Gen.facts Cert.KernelIdeal.Gen.facts

/-- The two bodies are the same. -/
theorem body {F : FTy → Type} [FloatOps F] : @Cert.Kernel.cc0_nearest F _ _ = @Cert.KernelIdeal.cc0_nearest F _ _ := rfl

/-- So the two tables of bodies are the same. -/
theorem table {F : FTy → Type} [FloatOps F] : @Cert.Kernel.defs₀ F _ _ = @Cert.KernelIdeal.defs₀ F _ _ := by
  unfold Cert.Kernel.defs₀ Cert.KernelIdeal.defs₀
  refine congrArg Defs.onTc (funext fun l => ?_)
  match l with
  | 0 => rfl

/-- So what a call runs is the same. -/
theorem calls {F : FTy → Type} [FloatOps F] : @Cert.Kernel.defs F _ _ = @Cert.KernelIdeal.defs F _ _ :=
  congrArg (Pipeline.defs Cert.KernelIdeal.pcfgs) table

/-- The frame of the program: it terminates without fault and leaves its arguments as they were. -/
theorem frame : Cert.quiescent_Kernel (hKernel := Cert.Kernel.Gen.facts) := fun m ρ _ => by
  have h := Cert.KernelIdeal.Whole.frame (F := Bits) m ρ
  rw [← calls] at h
  exact h

end Cert.Same
-- ==== Proof.Cells.lean ====
/- The kernel's tables and blocks over the extended reals, one entry at a time: what each load of the
   token loop reads, and the distance that one row of codes contributes. -/
module

public import proofs.«01_k».proof.Proof.Out
public import Idealize.ShloMosaic.PureOps.Ideal
public import Idealize.ShloMosaic.Lib.Pointwise
public import Idealize.ShloMosaic.Lib.VecWindow

@[expose] public section

set_option synthInstance.maxSize 4096
set_option maxRecDepth 16384

noncomputable section

namespace Cert.KernelIdeal.Tile

open Idealize.ShloMosaic Idealize.ShloMosaic.TcCoe
open Cert.KernelIdeal.Gen

/-- The scale of code `c`. -/
def codeScale (x3 : Vec Ideal S64x128 .f32) (c : Fin 8192) : EReal :=
  x3 (ix2 (n0 := 64) (n1 := 128) ⟨c.val / 128, by omega⟩ ⟨c.val % 128, by omega⟩)

/-- The sum of the squares of code `c`. -/
def codeSquares (x2 : Vec Ideal S8192x16 .fp8e4m3) (c : Fin 8192) : EReal :=
  ∑ d : Fin 16, (x2 (ix2 (n0 := 8192) (n1 := 16) c d) : EReal) * x2 (ix2 (n0 := 8192) (n1 := 16) c d)

theorem pay1_at (w : Vec Ideal S1x128 .f32) (r l : Fin 128) :
    k0_pay1 w (ix2 (n0 := 128) (n1 := 128) r l) = w (ix2 (n0 := 1) (n1 := 128) 0 r) := by
  pointwise [k0_pay1]

theorem pay3_at (w : Vec Ideal S1x128 .f32) (r l : Fin 128) :
    k0_pay3 w (ix2 (n0 := 128) (n1 := 128) r l) = (Ideal.ofBits .f32 0x40000000#32 * w (ix2 (n0 := 1) (n1 := 128) 0 r) : EReal) := by
  pointwise [k0_pay3, k0_pay1]

theorem pay2_at (w : Vec Ideal S1x128 .f32) (v : Vec Ideal S128x16 .fp8e4m3) (r l : Fin 128) :
    k0_pay2 w v (ix2 (n0 := 128) (n1 := 128) r l)
      = ((w (ix2 (n0 := 1) (n1 := 128) 0 r) * w (ix2 (n0 := 1) (n1 := 128) 0 r))
          * ∑ d : Fin 16, v (ix2 (n0 := 128) (n1 := 16) r d) * v (ix2 (n0 := 128) (n1 := 16) r d) : EReal) := by
  pointwise [k0_pay2, k0_pay1]

theorem inBlock_at (c : Fin 8192) (l : Fin 128) :
    inBlock (ix2 (n0 := 8192) (n1 := 128) c l) = ix2 (n0 := 128) (n1 := 128) ⟨c.val % 128, by omega⟩ l :=
  (ix2_eq_valueIdx _ _).symm

/-- The table of doubled scales at row `c`. -/
theorem tab6_at (x3 : Vec Ideal S64x128 .f32) (c : Fin 8192) (l : Fin 128) :
    tab6 x3 (ix2 (n0 := 8192) (n1 := 128) c l) = (Ideal.ofBits .f32 0x40000000#32 * codeScale x3 c : EReal) := by
  unfold tab6
  rw [inBlock_at]
  refine (pay3_at _ _ _).trans ?_
  unfold scaleRow codeScale VecWindow.window
  refine congrArg (fun z => Ideal.ofBits .f32 0x40000000#32 * (x3 z : EReal)) (funext fun a => Fin.ext ?_)
  match a with
  | ⟨0, _⟩ => show c.val / 128 + 1 * 0 = c.val / 128; omega
  | ⟨1, _⟩ => show 0 + 1 * (c.val % 128) = c.val % 128; omega

/-- The table of norms at row `c`. -/
theorem tab7_at (x2 : Vec Ideal S8192x16 .fp8e4m3) (x3 : Vec Ideal S64x128 .f32) (c : Fin 8192) (l : Fin 128) :
    tab7 x2 x3 (ix2 (n0 := 8192) (n1 := 128) c l) = ((codeScale x3 c * codeScale x3 c) * codeSquares x2 c : EReal) := by
  unfold tab7
  rw [inBlock_at]
  refine (pay2_at _ _ _ _).trans ?_
  have h1 : scaleRow x3 _ (block_lt (ix2 (n0 := 8192) (n1 := 128) c l)) (ix2 (n0 := 1) (n1 := 128) 0 ⟨c.val % 128, by omega⟩) = codeScale x3 c := by
    unfold scaleRow codeScale VecWindow.window
    refine congrArg x3 (funext fun a => Fin.ext ?_)
    match a with
    | ⟨0, _⟩ => show c.val / 128 + 1 * 0 = c.val / 128; omega
    | ⟨1, _⟩ => show 0 + 1 * (c.val % 128) = c.val % 128; omega
  have h2 : ∀ d : Fin 16, codeRows x2 _ (block_lt (ix2 (n0 := 8192) (n1 := 128) c l)) (ix2 (n0 := 128) (n1 := 16) ⟨c.val % 128, by omega⟩ d)
      = x2 (ix2 (n0 := 8192) (n1 := 16) c d) := by
    intro d
    unfold codeRows VecWindow.window
    refine congrArg x2 (funext fun a => Fin.ext ?_)
    match a with
    | ⟨0, _⟩ => show 128 * (c.val / 128) + 1 * (c.val % 128) = c.val; omega
    | ⟨1, _⟩ => show 0 + 1 * d.val = d.val; omega
  unfold codeSquares
  refine congrArg₂ (fun a b : EReal => a * b) (congrArg₂ (fun a b : EReal => a * b) h1 h1) (Finset.sum_congr rfl fun d _ => congrArg₂ (fun a b : EReal => a * b) (h2 d) (h2 d))

section env
variable (arg0 : Memref sig .tc .vmem S16x13824 .fp8e4m3) (harg0 : arg0.IsWhole) (arg1 : Memref sig .tc .vmem S27x1x512 .f32) (harg1 : arg1.IsWhole) (arg2 : Memref sig .tc .vmem S8192x16 .fp8e4m3) (harg2 : arg2.IsWhole) (arg4 : Memref sig .tc .vmem S27x1x512 .f32) (arg5 : Memref sig .tc .vmem S27x1x512 .f32) (arg6 : Memref sig .tc .vmem S8192x128 .f32) (harg6 : arg6.IsWhole) (arg7 : Memref sig .tc .vmem S8192x128 .f32) (harg7 : arg7.IsWhole)
  (x0 : Vec Ideal S16x13824 .fp8e4m3) (x1 : Vec Ideal S27x1x512 .f32) (x2 : Vec Ideal S8192x16 .fp8e4m3) (x3 : Vec Ideal S64x128 .f32) (k : Fin k0_t2_loop.trips)

theorem trip_lt : k.val < 27 := trips2_eq ▸ k.isLt

/-- The token scale of token `t` of tile `k`. -/
def tokScale (t : Fin 512) : EReal := x1 (ix3 (n0 := 27) (n1 := 1) (n2 := 512) ⟨k.val, trip_lt k⟩ 0 t)

/-- Component `d` of token `t` of tile `k`. -/
def tok (t : Fin 512) (d : Fin 16) : EReal := x0 (ix2 (n0 := 16) (n1 := 13824) d ⟨512 * k.val + t.val, by have := trip_lt k; omega⟩)

theorem inb4 : ∀ a, (![0, 512 * k.val] : Fin 2 → ℕ) a + S16x512.size a ≤ S16x13824.size a := fun a => by
  have := k0_off4_inb k a
  rwa [k0_off4_eq] at this

theorem inb5 : ∀ a, (![k.val, 0, 0] : Fin 3 → ℕ) a + S1x1x512.size a ≤ S27x1x512.size a := fun a => by
  have := k0_off5_inb k a
  rwa [k0_off5_eq] at this

theorem xt_at (t : Fin 512) (d : Fin 16) : xt (envAt arg0 harg0 arg1 harg1 arg2 harg2 arg4 arg5 arg6 harg6 arg7 harg7 x0 x1 x2 x3 k) (ix2 (n0 := 16) (n1 := 512) d t) = tok x0 k t d := by
  unfold xt
  rw [shapeCast_self]
  refine (congrFun (View.readAt_unit arg0.view (harg0.unread x0) (k0_off4_inb k) (k0_off4_eq k) (inb4 k)) _).trans ?_
  rw [harg0.read_unread]
  unfold VecWindow.window tok
  refine congrArg x0 (funext fun a => Fin.ext ?_)
  match a with
  | ⟨0, _⟩ => show 0 + 1 * d.val = d.val; omega
  | ⟨1, _⟩ => show 512 * k.val + 1 * t.val = 512 * k.val + t.val; omega

theorem xs_at (t : Fin 512) : xs (envAt arg0 harg0 arg1 harg1 arg2 harg2 arg4 arg5 arg6 harg6 arg7 harg7 x0 x1 x2 x3 k) (ix2 (n0 := 1) (n1 := 512) 0 t) = tokScale x1 k t := by
  unfold xs
  pointwise
  refine (congrFun (View.readAt_unit arg1.view (harg1.unread x1) (k0_off5_inb k) (k0_off5_eq k) (inb5 k)) _).trans ?_
  rw [harg1.read_unread]
  unfold VecWindow.window tokScale
  refine congrArg x1 (funext fun a => Fin.ext ?_)
  match a with
  | ⟨0, _⟩ => show k.val + 1 * 0 = k.val; omega
  | ⟨1, _⟩ => rfl
  | ⟨2, _⟩ => show 0 + 1 * t.val = t.val; omega

theorem rd2_at (o : ℕ) (h) (r : Fin 64) (d : Fin 16) (c : Fin 8192) (hc : c.val = o + r.val) :
    rd2 (envAt arg0 harg0 arg1 harg1 arg2 harg2 arg4 arg5 arg6 harg6 arg7 harg7 x0 x1 x2 x3 k) o h (ix2 (n0 := 64) (n1 := 16) r d) = x2 (ix2 (n0 := 8192) (n1 := 16) c d) := by
  unfold rd2
  refine (congrFun (View.readAt_unit _ _ _ rfl h) _).trans ?_
  show VecWindow.window (arg2.view.read (Elt Ideal) (harg2.unread x2)) _ _ _ _ = _
  rw [harg2.read_unread]
  unfold VecWindow.window
  refine congrArg x2 (funext fun a => Fin.ext ?_)
  match a with
  | ⟨0, _⟩ => show o + 1 * r.val = c.val; omega
  | ⟨1, _⟩ => show 0 + 1 * d.val = d.val; omega

theorem rd6_at (o : ℕ) (h) (r : Fin 8) (l : Fin 128) (c : Fin 8192) (hc : c.val = o + r.val) :
    rd6 (envAt arg0 harg0 arg1 harg1 arg2 harg2 arg4 arg5 arg6 harg6 arg7 harg7 x0 x1 x2 x3 k) o h (ix2 (n0 := 8) (n1 := 128) r l) = (Ideal.ofBits .f32 0x40000000#32 * codeScale x3 c : EReal) := by
  unfold rd6
  refine (congrFun (View.readAt_unit _ _ _ rfl h) _).trans ?_
  show VecWindow.window (arg6.view.read (Elt Ideal) (harg6.unread (tab6 x3))) _ _ _ _ = _
  rw [harg6.read_unread]
  refine Eq.trans ?_ (tab6_at x3 c l)
  unfold VecWindow.window
  refine congrArg (tab6 x3) (funext fun a => Fin.ext ?_)
  match a with
  | ⟨0, _⟩ => show o + 1 * r.val = c.val; omega
  | ⟨1, _⟩ => show 0 + 1 * l.val = l.val; omega

theorem rd7_at (o : ℕ) (h) (r : Fin 8) (l : Fin 128) (c : Fin 8192) (hc : c.val = o + r.val) :
    rd7 (envAt arg0 harg0 arg1 harg1 arg2 harg2 arg4 arg5 arg6 harg6 arg7 harg7 x0 x1 x2 x3 k) o h (ix2 (n0 := 8) (n1 := 128) r l) = ((codeScale x3 c * codeScale x3 c) * codeSquares x2 c : EReal) := by
  unfold rd7
  refine (congrFun (View.readAt_unit _ _ _ rfl h) _).trans ?_
  show VecWindow.window (arg7.view.read (Elt Ideal) (harg7.unread (tab7 x2 x3))) _ _ _ _ = _
  rw [harg7.read_unread]
  refine Eq.trans ?_ (tab7_at x2 x3 c l)
  unfold VecWindow.window
  refine congrArg (tab7 x2 x3) (funext fun a => Fin.ext ?_)
  match a with
  | ⟨0, _⟩ => show o + 1 * r.val = c.val; omega
  | ⟨1, _⟩ => show 0 + 1 * l.val = l.val; omega

/-- Token `t`'s norm. -/
def tokNorm (t : Fin 512) : EReal := (tokScale x1 k t * tokScale x1 k t) * ∑ d : Fin 16, tok x0 k t d * tok x0 k t d

/-- Token `t`'s squared distance to code `c`, less the token's norm. -/
def part (t : Fin 512) (c : Fin 8192) : EReal :=
  (codeScale x3 c * codeScale x3 c) * codeSquares x2 c
    - ((Ideal.ofBits .f32 0x40000000#32 * codeScale x3 c) * tokScale x1 k t) * ∑ d : Fin 16, (x2 (ix2 (n0 := 8192) (n1 := 16) c d) : EReal) * tok x0 k t d

/-- Lane `l` of group `h`, as a token of the tile. -/
def lane (h : Fin 4) (l : Fin 128) : Fin 512 := ⟨128 * h.val + l.val, by omega⟩

theorem xn_at (t : Fin 512) : xn (envAt arg0 harg0 arg1 harg1 arg2 harg2 arg4 arg5 arg6 harg6 arg7 harg7 x0 x1 x2 x3 k) (ix2 (n0 := 1) (n1 := 512) 0 t) = tokNorm x0 x1 k t := by
  unfold xn tokNorm
  pointwise
  rw [xs_at]
  refine congrArg (fun z : EReal => _ * z) (Finset.sum_congr rfl fun d _ => ?_)
  rw [xt_at]

theorem sb_at (h : Fin 4) (r : Fin 8) (l : Fin 128) : sb (envAt arg0 harg0 arg1 harg1 arg2 harg2 arg4 arg5 arg6 harg6 arg7 harg7 x0 x1 x2 x3 k) h (ix2 (n0 := 8) (n1 := 128) r l) = tokScale x1 k (lane h l) := by
  refine Eq.trans ?_ (xs_at arg0 harg0 arg1 harg1 arg2 harg2 arg4 arg5 arg6 harg6 arg7 harg7 x0 x1 x2 x3 k (lane h l))
  unfold sb
  pointwise
  rfl

theorem dot_at (j : ℕ) (hj : (j.blt 128) = true) (r : Fin 64) (t : Fin 512) (c : Fin 8192) (hc : c.val = 64 * j + r.val) :
    dot (envAt arg0 harg0 arg1 harg1 arg2 harg2 arg4 arg5 arg6 harg6 arg7 harg7 x0 x1 x2 x3 k) j hj (ix2 (n0 := 64) (n1 := 512) r t) = (∑ d : Fin 16, (x2 (ix2 (n0 := 8192) (n1 := 16) c d) : EReal) * tok x0 k t d) := by
  unfold dot
  pointwise
  refine Finset.sum_congr rfl fun d _ => ?_
  rw [xt_at, rd2_at _ _ _ _ _ _ _ _ _ _ _ _ _ _ _ _ _ _ _ r d c hc]

/-- Row `j` of the codes, at sublane `r`, lane `l` of group `h`: the partial distance of code `8 j + r`. -/
theorem val_at (h : Fin 4) (j : ℕ) (hj : (j.blt 1024) = true) (r : Fin 8) (l : Fin 128) (c : Fin 8192) (hc : c.val = 8 * j + r.val) :
    val (envAt arg0 harg0 arg1 harg1 arg2 harg2 arg4 arg5 arg6 harg6 arg7 harg7 x0 x1 x2 x3 k) h j hj (ix2 (n0 := 8) (n1 := 128) r l) = part x0 x1 x2 x3 k (lane h l) c := by
  have hd : extractStridedSlice S8x128 ![8 * (j % 8), 128 * h.val] (dot (envAt arg0 harg0 arg1 harg1 arg2 harg2 arg4 arg5 arg6 harg6 arg7 harg7 x0 x1 x2 x3 k) (j / 8) (blt_div hj)) (slicesDot (j % 8) (blt_mod j) h) (ix2 (n0 := 8) (n1 := 128) r l)
      = (∑ d : Fin 16, (x2 (ix2 (n0 := 8192) (n1 := 16) c d) : EReal) * tok x0 k (lane h l) d) := by
    refine Eq.trans ?_ (dot_at arg0 harg0 arg1 harg1 arg2 harg2 arg4 arg5 arg6 harg6 arg7 harg7 x0 x1 x2 x3 k (j / 8) (blt_div hj) ⟨8 * (j % 8) + r.val, by omega⟩ (lane h l) c (by show c.val = 64 * (j / 8) + (8 * (j % 8) + r.val); omega))
    refine congrArg (dot (envAt arg0 harg0 arg1 harg1 arg2 harg2 arg4 arg5 arg6 harg6 arg7 harg7 x0 x1 x2 x3 k) (j / 8) (blt_div hj)) (funext fun a => Fin.ext ?_)
    match a with
    | ⟨0, _⟩ => rfl
    | ⟨1, _⟩ => rfl
  unfold val part
  refine congrArg₂ (fun a b : EReal => a - b) (rd7_at arg0 harg0 arg1 harg1 arg2 harg2 arg4 arg5 arg6 harg6 arg7 harg7 x0 x1 x2 x3 k _ _ r l c hc) ?_
  refine congrArg₂ (fun a b : EReal => a * b) (congrArg₂ (fun a b : EReal => a * b) (rd6_at arg0 harg0 arg1 harg1 arg2 harg2 arg4 arg5 arg6 harg6 arg7 harg7 x0 x1 x2 x3 k _ _ r l c hc) ?_) hd
  exact sb_at arg0 harg0 arg1 harg1 arg2 harg2 arg4 arg5 arg6 harg6 arg7 harg7 x0 x1 x2 x3 k h r l

end env

end Cert.KernelIdeal.Tile

end
-- ==== Proof.TwoLeast.lean ====
/- The two least values of a finite family of extended reals, counted with repetition: how they are kept
   while the family grows, how two disjoint parts are merged, and what a stable sort puts first. -/
module

public import Idealize.ShloMosaic.Lib.SortFacts
public import Idealize.ShloMosaic.PureOps.Ideal

@[expose] public section

noncomputable section

namespace Cert.TwoLeast

open Idealize.ShloMosaic

variable {ι : Type} [DecidableEq ι]

/-- The least value of `f` over `s`, `⊤` if there is none. -/
def least (s : Finset ι) (f : ι → EReal) : EReal := s.inf f

/-- The second least value of `f` over `s`, a value met twice counting twice: the least of the greater one
    of any two. -/
def second (s : Finset ι) (f : ι → EReal) : EReal := s.offDiag.inf fun p => max (f p.1) (f p.2)

/-- `p` is the two least values of `f` over `s`. -/
def Two (s : Finset ι) (f : ι → EReal) (p : EReal × EReal) : Prop := p.1 = least s f ∧ p.2 = second s f

theorem two_empty (f : ι → EReal) : Two ∅ f (⊤, ⊤) := ⟨by simp [least], by simp [second]⟩

/-- Two disjoint parts merged. -/
theorem Two.merge {s t : Finset ι} {f : ι → EReal} {p q : EReal × EReal} (hp : Two s f p) (hq : Two t f q) (hd : Disjoint s t) :
    Two (s ∪ t) f (min p.1 q.1, min (max p.1 q.1) (min p.2 q.2)) := by
  obtain ⟨p1, p2⟩ := hp
  obtain ⟨q1, q2⟩ := hq
  refine ⟨?_, ?_⟩
  · show min p.1 q.1 = _
    rw [p1, q1, least, least, least, Finset.inf_union]
  · show min (max p.1 q.1) (min p.2 q.2) = _
    rw [p1, q1, p2, q2]
    unfold least second
    rw [Finset.offDiag_union hd, Finset.inf_union, Finset.inf_union, Finset.inf_union]
    have h1 : (s ×ˢ t).inf (fun x : ι × ι => max (f x.1) (f x.2)) = max (s.inf f) (t.inf f) := (Finset.inf_sup_inf s t f f).symm
    have h2 : (t ×ˢ s).inf (fun x : ι × ι => max (f x.1) (f x.2)) = max (t.inf f) (s.inf f) := (Finset.inf_sup_inf t s f f).symm
    rw [h1, h2, max_comm (t.inf f) (s.inf f)]
    show min _ (min _ _) = min (min (min _ _) _) _
    rw [min_comm (max (s.inf f) (t.inf f)), min_assoc (min _ _) (max _ _) (max _ _), min_self]

/-- One more value. -/
theorem Two.insert {s : Finset ι} {f : ι → EReal} {p : EReal × EReal} (hp : Two s f p) {i : ι} (hi : i ∉ s) :
    Two (insert i s) f (min p.1 (f i), min p.2 (max p.1 (f i))) := by
  have h1 : Two ({i} : Finset ι) f (f i, ⊤) := ⟨by simp [least], by simp [second]⟩
  have h := hp.merge h1 (Finset.disjoint_singleton_right.mpr hi)
  rw [Finset.union_comm, ← Finset.insert_eq] at h
  have e : min (max p.1 (f i)) (min p.2 ⊤) = min p.2 (max p.1 (f i)) := by
    rw [min_eq_left le_top, min_comm]
  rw [← e]; exact h

/-- A monotone map goes inside the least value. -/
theorem map_inf {κ : Type} {s : Finset κ} (hs : s.Nonempty) (f : κ → EReal) {g : EReal → EReal} (hg : Monotone g) :
    g (s.inf f) = s.inf fun i => g (f i) := by
  refine le_antisymm (Finset.le_inf fun i hi => hg (Finset.inf_le hi)) ?_
  obtain ⟨i, hi, e⟩ := Finset.exists_mem_eq_inf s hs f
  rw [e]
  exact Finset.inf_le (f := fun i => g (f i)) hi

theorem map_least {s : Finset ι} (hs : s.Nonempty) (f : ι → EReal) {g : EReal → EReal} (hg : Monotone g) :
    g (least s f) = least s fun i => g (f i) := map_inf hs f hg

theorem map_second {s : Finset ι} (hs : s.offDiag.Nonempty) (f : ι → EReal) {g : EReal → EReal} (hg : Monotone g) :
    g (second s f) = second s fun i => g (f i) := by
  unfold second
  rw [map_inf hs _ hg]
  exact Finset.inf_congr rfl fun p _ => hg.map_max

/-- The two least values, from a place of the least and a place of the least of the others. -/
theorem two_of_places {s : Finset ι} {f : ι → EReal} {a b : ι} (ha : a ∈ s) (hb : b ∈ s) (hab : a ≠ b)
    (h1 : ∀ i ∈ s, f a ≤ f i) (h2 : ∀ i ∈ s, i ≠ a → f b ≤ f i) : Two s f (f a, f b) := by
  refine ⟨le_antisymm (Finset.le_inf fun i hi => h1 i hi) (Finset.inf_le ha), le_antisymm ?_ ?_⟩
  · refine Finset.le_inf fun p hp => ?_
    obtain ⟨m1, m2, m3⟩ := Finset.mem_offDiag.mp hp
    by_cases e : p.1 = a
    · exact le_trans (h2 p.2 m2 fun h => m3 (e.trans h.symm)) (le_max_right _ _)
    · exact le_trans (h2 p.1 m1 e) (le_max_left _ _)
  · refine le_trans (Finset.inf_le (f := fun p : ι × ι => max (f p.1) (f p.2)) (b := (a, b)) (Finset.mem_offDiag.mpr ⟨ha, hb, hab⟩)) ?_
    exact max_le (h1 b hb) le_rfl

/-- What the stable sort of the negated values, greatest first, puts at its first two places. -/
theorem two_sorted {n : ℕ} (f : Fin n → EReal) (h0 : 0 < n) (h1 : 1 < n) (B : Fin n → Fin n → Bool)
    (hB : ∀ k k', B k k' = decide (-f k' < -f k)) :
    Two Finset.univ f (f (sortedFrom B ⟨0, h0⟩), f (sortedFrom B ⟨1, h1⟩)) := by
  have key : ∀ i j : Fin n, i < j → f (sortedFrom B i) ≤ f (sortedFrom B j) := by
    intro i j hij
    have h := sortedFrom_noInversion B B (fun a b h => ?_) (fun _ _ h => h) (fun a b c ha hb => ?_) i j hij
    · rw [hB, decide_eq_false_iff_not, not_lt, EReal.neg_le_neg_iff] at h
      exact h
    · rw [hB, decide_eq_true_eq] at h
      rw [hB, decide_eq_false_iff_not]
      exact not_lt.mpr h.le
    · rw [hB, decide_eq_false_iff_not, not_lt] at ha hb ⊢
      exact ha.trans hb
  have place : ∀ i : Fin n, ∃ k, sortedFrom B k = i := sortedFrom_surjective B
  refine two_of_places (Finset.mem_univ _) (Finset.mem_univ _)
    (fun e => absurd (congrArg Fin.val (sortedFrom_injective B e)) (by simp)) (fun i _ => ?_) (fun i _ hi => ?_)
  · obtain ⟨k, rfl⟩ := place i
    by_cases hk : k.val = 0
    · exact le_of_eq (congrArg (fun k => f (sortedFrom B k)) (Fin.ext hk.symm))
    · exact key _ _ (Fin.lt_def.mpr (Nat.pos_of_ne_zero hk))
  · obtain ⟨k, rfl⟩ := place i
    have hk0 : k.val ≠ 0 := fun h => hi (congrArg (sortedFrom B) (Fin.ext h))
    by_cases hk : k.val = 1
    · exact le_of_eq (congrArg (fun k => f (sortedFrom B k)) (Fin.ext hk.symm))
    · exact key _ _ (Fin.lt_def.mpr (by show 1 < k.val; omega))

end Cert.TwoLeast

end
-- ==== Proof.Nearest.lean ====
/- What the token loop's long fold over the codes leaves, over the extended reals: the least and the second
   least of a token's partial distances to all codes. -/
module

public import proofs.«01_k».proof.Proof.Cells
public import proofs.«01_k».proof.Proof.TwoLeast

@[expose] public section

set_option synthInstance.maxSize 4096
set_option maxRecDepth 16384

noncomputable section

namespace Cert.KernelIdeal.Tile

open Idealize.ShloMosaic Idealize.ShloMosaic.TcCoe
open Cert.KernelIdeal.Gen
open Cert.TwoLeast

/-- The codes of sublane `r` among the first `j` rows. -/
def seen (j : ℕ) (r : Fin 8) : Finset (Fin 8192) := Finset.univ.filter fun c => c.val / 8 < j ∧ c.val % 8 = r.val

/-- The codes of the sublanes `J`. -/
def onLanes (J : Finset (Fin 8)) : Finset (Fin 8192) := Finset.univ.filter fun c => (⟨c.val % 8, by omega⟩ : Fin 8) ∈ J

theorem seen_zero (r : Fin 8) : seen 0 r = ∅ := by
  simp [seen]

theorem seen_succ (j : ℕ) (hj : j < 1024) (r : Fin 8) : seen (j + 1) r = insert (⟨8 * j + r.val, by omega⟩ : Fin 8192) (seen j r) := by
  ext c
  simp only [seen, Finset.mem_filter, Finset.mem_univ, true_and, Finset.mem_insert, Fin.ext_iff]
  omega

theorem not_mem_seen (j : ℕ) (hj : j < 1024) (r : Fin 8) : (⟨8 * j + r.val, by omega⟩ : Fin 8192) ∉ seen j r := by
  simp only [seen, Finset.mem_filter, Finset.mem_univ, true_and]
  omega

theorem seen_all (r : Fin 8) : seen 1024 r = onLanes {r} := by
  ext c
  simp only [seen, onLanes, Finset.mem_filter, Finset.mem_univ, true_and, Finset.mem_singleton, Fin.ext_iff]
  omega

theorem onLanes_union (J K : Finset (Fin 8)) : onLanes (J ∪ K) = onLanes J ∪ onLanes K := by
  ext c
  simp only [onLanes, Finset.mem_filter, Finset.mem_univ, true_and, Finset.mem_union]

theorem onLanes_disjoint {J K : Finset (Fin 8)} (h : Disjoint J K) : Disjoint (onLanes J) (onLanes K) := by
  rw [Finset.disjoint_left] at h ⊢
  intro c hc hc'
  simp only [onLanes, Finset.mem_filter, Finset.mem_univ, true_and] at hc hc'
  exact h hc hc'

theorem onLanes_univ : onLanes Finset.univ = Finset.univ := by
  ext c
  simp [onLanes]

/-- The sublane that a rotation by `n` brings to sublane `r`. -/
def back (n : ℕ) (r : Fin 8) : Fin 8 := ⟨(r.val + 8 - n % 8) % 8, by omega⟩

theorem rot_at (n : BitVec 32) (x : FVec Ideal S8x128 .f32) (r : Fin 8) (l : Fin 128) :
    dynamicRotate 0 n none x rotates_S8x128_d0 (ix2 (n0 := 8) (n1 := 128) r l) = x (ix2 (n0 := 8) (n1 := 128) (back n.toNat r) l) := by
  rw [Pointwise.dynamicRotate_apply]
  refine congrArg x (funext fun a => Fin.ext ?_)
  match a with
  | ⟨0, _⟩ => rfl
  | ⟨1, _⟩ => rfl

/-- Merging each sublane with the one a rotation brings to it. -/
theorem merge_at (n : BitVec 32) (p : FVec Ideal S8x128 .f32 × FVec Ideal S8x128 .f32) (f : Fin 8192 → EReal) (J : Fin 8 → Finset (Fin 8)) (l : Fin 128)
    (hp : ∀ r : Fin 8, Two (onLanes (J r)) f (p.1 (ix2 (n0 := 8) (n1 := 128) r l), p.2 (ix2 (n0 := 8) (n1 := 128) r l)))
    (hd : ∀ r : Fin 8, Disjoint (J r) (J (back n.toNat r))) (r : Fin 8) :
    Two (onLanes (J r ∪ J (back n.toNat r))) f
      ((mm n p).1 (ix2 (n0 := 8) (n1 := 128) r l), (mm n p).2 (ix2 (n0 := 8) (n1 := 128) r l)) := by
  have h := Two.merge (hp r) (hp (back n.toNat r)) (onLanes_disjoint (hd r))
  rw [← onLanes_union] at h
  have e1 := rot_at n p.1 r l
  have e2 := rot_at n p.2 r l
  have g1 : (mm n p).1 (ix2 (n0 := 8) (n1 := 128) r l) = min (p.1 (ix2 (n0 := 8) (n1 := 128) r l) : EReal) (p.1 (ix2 (n0 := 8) (n1 := 128) (back n.toNat r) l)) :=
    congrArg (fun z : EReal => min (p.1 (ix2 (n0 := 8) (n1 := 128) r l) : EReal) z) e1
  have g2 : (mm n p).2 (ix2 (n0 := 8) (n1 := 128) r l) = min (max (p.1 (ix2 (n0 := 8) (n1 := 128) r l) : EReal) (p.1 (ix2 (n0 := 8) (n1 := 128) (back n.toNat r) l)))
      (min (p.2 (ix2 (n0 := 8) (n1 := 128) r l) : EReal) (p.2 (ix2 (n0 := 8) (n1 := 128) (back n.toNat r) l))) :=
    congrArg₂ (fun z w : EReal => min (max (p.1 (ix2 (n0 := 8) (n1 := 128) r l) : EReal) z) (min (p.2 (ix2 (n0 := 8) (n1 := 128) r l) : EReal) w)) e1 e2
  rw [g1, g2]
  exact h

theorem inf_at (j : S8x128.Idx) : (inf (F := Ideal)) j = (⊤ : EReal) := by
  show Ideal.ieee 8 23 0x7F800000#32 = ⊤
  unfold Ideal.ieee
  rw [if_pos (by decide), if_pos (by decide), if_neg (by decide)]

section env
variable (arg0 : Memref sig .tc .vmem S16x13824 .fp8e4m3) (harg0 : arg0.IsWhole) (arg1 : Memref sig .tc .vmem S27x1x512 .f32) (harg1 : arg1.IsWhole) (arg2 : Memref sig .tc .vmem S8192x16 .fp8e4m3) (harg2 : arg2.IsWhole) (arg4 : Memref sig .tc .vmem S27x1x512 .f32) (arg5 : Memref sig .tc .vmem S27x1x512 .f32) (arg6 : Memref sig .tc .vmem S8192x128 .f32) (harg6 : arg6.IsWhole) (arg7 : Memref sig .tc .vmem S8192x128 .f32) (harg7 : arg7.IsWhole)
  (x0 : Vec Ideal S16x13824 .fp8e4m3) (x1 : Vec Ideal S27x1x512 .f32) (x2 : Vec Ideal S8192x16 .fp8e4m3) (x3 : Vec Ideal S64x128 .f32)

/-- After `j` rows, each sublane and lane holds the two least partial distances of the codes it has seen. -/
theorem two_at (k : Fin k0_t2_loop.trips) (h : Fin 4) (r : Fin 8) (l : Fin 128) (j : ℕ) (hj : j ≤ 1024) :
    Two (seen j r) (part x0 x1 x2 x3 k (lane h l))
      ((two (envAt arg0 harg0 arg1 harg1 arg2 harg2 arg4 arg5 arg6 harg6 arg7 harg7 x0 x1 x2 x3 k) h j).1 (ix2 (n0 := 8) (n1 := 128) r l), (two (envAt arg0 harg0 arg1 harg1 arg2 harg2 arg4 arg5 arg6 harg6 arg7 harg7 x0 x1 x2 x3 k) h j).2 (ix2 (n0 := 8) (n1 := 128) r l)) := by
  induction j with
  | zero =>
    rw [seen_zero]
    have e : (two (envAt arg0 harg0 arg1 harg1 arg2 harg2 arg4 arg5 arg6 harg6 arg7 harg7 x0 x1 x2 x3 k) h 0) = (inf, inf) := rfl
    rw [e]
    dsimp only
    rw [inf_at]
    exact two_empty _
  | succ j ih =>
    have hb : (j.blt 1024) = true := Nat.blt_eq.mpr (by omega)
    have hv := val_at arg0 harg0 arg1 harg1 arg2 harg2 arg4 arg5 arg6 harg6 arg7 harg7 x0 x1 x2 x3 k h j hb r l ⟨8 * j + r.val, by omega⟩ rfl
    have hi := Two.insert (ih (by omega)) (not_mem_seen j (by omega) r)
    rw [← seen_succ j (by omega) r, ← hv] at hi
    rw [two, dif_pos hb]
    exact hi

/-- Merged over the sublanes, sublane 0 holds the two least over all codes. -/
theorem last_at (k : Fin k0_t2_loop.trips) (h : Fin 4) (l : Fin 128) :
    Two Finset.univ (part x0 x1 x2 x3 k (lane h l))
      ((last (envAt arg0 harg0 arg1 harg1 arg2 harg2 arg4 arg5 arg6 harg6 arg7 harg7 x0 x1 x2 x3 k) h).1 (ix2 (n0 := 8) (n1 := 128) 0 l), (last (envAt arg0 harg0 arg1 harg1 arg2 harg2 arg4 arg5 arg6 harg6 arg7 harg7 x0 x1 x2 x3 k) h).2 (ix2 (n0 := 8) (n1 := 128) 0 l)) := by
  have h0 : ∀ r : Fin 8, Two (onLanes {r}) (part x0 x1 x2 x3 k (lane h l)) _ := fun r =>
    seen_all r ▸ two_at arg0 harg0 arg1 harg1 arg2 harg2 arg4 arg5 arg6 harg6 arg7 harg7 x0 x1 x2 x3 k h r l 1024 le_rfl
  have h1 := merge_at 4#32 (fst (envAt arg0 harg0 arg1 harg1 arg2 harg2 arg4 arg5 arg6 harg6 arg7 harg7 x0 x1 x2 x3 k) h 1024, snd (envAt arg0 harg0 arg1 harg1 arg2 harg2 arg4 arg5 arg6 harg6 arg7 harg7 x0 x1 x2 x3 k) h 1024) _ (fun r => {r}) l (fun r => by
    unfold fst snd; exact h0 r) (by decide)
  have h2 := merge_at 2#32 _ _ (fun r => {r} ∪ {back 4 r}) l h1 (by decide)
  have h3 := merge_at 1#32 _ _ (fun r => ({r} ∪ {back 4 r}) ∪ ({back 2 r} ∪ {back 4 (back 2 r)})) l h2 (by decide) 0
  have e : (({(0 : Fin 8)} ∪ {back 4 0}) ∪ ({back 2 0} ∪ {back 4 (back 2 0)})) ∪ (({back 1 0} ∪ {back 4 (back 1 0)}) ∪ ({back 2 (back 1 0)} ∪ {back 4 (back 2 (back 1 0))})) = (Finset.univ : Finset (Fin 8)) := by decide
  have e' := (congrArg onLanes e).trans onLanes_univ
  unfold last
  rw [← e']
  exact h3

/-- The token of its tile that `i` names. -/
def tokenOf (i : S27x1x512.Idx) : Fin 512 := ⟨(i 2).val, (i 2).isLt⟩

theorem lane_groupOf (i : S27x1x512.Idx) : lane (groupOf i) ⟨(i 2).val % 128, Nat.mod_lt _ (by omega)⟩ = tokenOf i := by
  refine Fin.ext ?_
  show 128 * ((i 2).val / 128) + (i 2).val % 128 = (i 2).val
  omega

theorem laneOf_at (i : S27x1x512.Idx) : laneOf i = ix2 (n0 := 1) (n1 := 128) 0 ⟨(i 2).val % 128, Nat.mod_lt _ (by omega)⟩ :=
  (ix2_eq_valueIdx _ _).symm

theorem norm_at (k : Fin k0_t2_loop.trips) (h : Fin 4) (l : Fin 128) :
    extractStridedSlice S1x128 ![0, 128 * h.val] (xn (envAt arg0 harg0 arg1 harg1 arg2 harg2 arg4 arg5 arg6 harg6 arg7 harg7 x0 x1 x2 x3 k)) (slicesXs h) (ix2 (n0 := 1) (n1 := 128) 0 l) = tokNorm x0 x1 k (lane h l) := by
  refine Eq.trans ?_ (xn_at arg0 harg0 arg1 harg1 arg2 harg2 arg4 arg5 arg6 harg6 arg7 harg7 x0 x1 x2 x3 k (lane h l))
  refine congrArg (xn _) (funext fun a => Fin.ext ?_)
  match a with
  | ⟨0, _⟩ => rfl
  | ⟨1, _⟩ => rfl

theorem row0_at (x : FVec Ideal S8x128 .f32) (l : Fin 128) :
    extractStridedSlice S1x128 ![0, 0] x slices_S8x128_o0_0_S1x128 (ix2 (n0 := 1) (n1 := 128) 0 l) = x (ix2 (n0 := 8) (n1 := 128) 0 l) := by
  refine congrArg x (funext fun a => Fin.ext ?_)
  match a with
  | ⟨0, _⟩ => rfl
  | ⟨1, _⟩ => show 0 + l.val = l.val; omega

/-- The first output: a token's least partial distance and its norm. -/
theorem outMin_at (i : S27x1x512.Idx) :
    outMin arg0 harg0 arg1 harg1 arg2 harg2 arg4 arg5 arg6 harg6 arg7 harg7 x0 x1 x2 x3 i
      = (least Finset.univ (part x0 x1 x2 x3 (tileOf i) (tokenOf i)) + tokNorm x0 x1 (tileOf i) (tokenOf i) : EReal) := by
  unfold outMin
  rw [laneOf_at, ← lane_groupOf i]
  refine congrArg₂ (fun a b : EReal => a + b) ?_ (norm_at arg0 harg0 arg1 harg1 arg2 harg2 arg4 arg5 arg6 harg6 arg7 harg7 x0 x1 x2 x3 _ _ _)
  exact (row0_at _ _).trans (last_at arg0 harg0 arg1 harg1 arg2 harg2 arg4 arg5 arg6 harg6 arg7 harg7 x0 x1 x2 x3 _ _ _).1

/-- The second output: the second least partial distance and the norm, less the first output. -/
theorem outGap_at (i : S27x1x512.Idx) :
    outGap arg0 harg0 arg1 harg1 arg2 harg2 arg4 arg5 arg6 harg6 arg7 harg7 x0 x1 x2 x3 i
      = ((second Finset.univ (part x0 x1 x2 x3 (tileOf i) (tokenOf i)) + tokNorm x0 x1 (tileOf i) (tokenOf i))
        - (least Finset.univ (part x0 x1 x2 x3 (tileOf i) (tokenOf i)) + tokNorm x0 x1 (tileOf i) (tokenOf i)) : EReal) := by
  refine congrArg₂ (fun a b : EReal => a - b) ?_ (outMin_at arg0 harg0 arg1 harg1 arg2 harg2 arg4 arg5 arg6 harg6 arg7 harg7 x0 x1 x2 x3 i)
  rw [laneOf_at, ← lane_groupOf i]
  refine congrArg₂ (fun a b : EReal => a + b) ?_ (norm_at arg0 harg0 arg1 harg1 arg2 harg2 arg4 arg5 arg6 harg6 arg7 harg7 x0 x1 x2 x3 _ _ _)
  exact (row0_at _ _).trans (last_at arg0 harg0 arg1 harg1 arg2 harg2 arg4 arg5 arg6 harg6 arg7 harg7 x0 x1 x2 x3 _ _ _).2

end env

end Cert.KernelIdeal.Tile

end
-- ==== Proof.Finals.lean ====
/- The kernel program's value: its two results, as the least and second least distances of the tiles. -/
module

public import proofs.«01_k».proof.Proof.Whole
public import proofs.«01_k».proof.Proof.Nearest
public import Idealize.ShloMosaic.Lib.Claim
public import Idealize.ShloMosaic.Lib.Pipeline.ValueKit

@[expose] public section

set_option maxRecDepth 16384

noncomputable section

namespace Cert.KernelIdeal.Finals

open Idealize.ShloMosaic Idealize.ShloMosaic.TcCoe
open Idealize.SL.Sem
open Cert.KernelIdeal.Gen Cert.KernelIdeal.Whole Cert.KernelIdeal.Tile
open Cert.TwoLeast

/-- The least distance of each token, tile by tile. -/
def tileMin (x0 : Vec Ideal S16x13824 .fp8e4m3) (x1 : Vec Ideal S27x1x512 .f32) (x2 : Vec Ideal S8192x16 .fp8e4m3) (x3 : Vec Ideal S64x128 .f32) : FVec Ideal S27x1x512 .f32 := fun i =>
  (least Finset.univ (part x0 x1 x2 x3 (tileOf i) (tokenOf i)) + tokNorm x0 x1 (tileOf i) (tokenOf i) : EReal)

/-- The second least distance less the least, tile by tile. -/
def tileGap (x0 : Vec Ideal S16x13824 .fp8e4m3) (x1 : Vec Ideal S27x1x512 .f32) (x2 : Vec Ideal S8192x16 .fp8e4m3) (x3 : Vec Ideal S64x128 .f32) : FVec Ideal S27x1x512 .f32 := fun i =>
  ((second Finset.univ (part x0 x1 x2 x3 (tileOf i) (tokenOf i)) + tokNorm x0 x1 (tileOf i) (tokenOf i))
    - (least Finset.univ (part x0 x1 x2 x3 (tileOf i) (tokenOf i)) + tokNorm x0 x1 (tileOf i) (tokenOf i)) : EReal)

variable (m : (ℓ : Loc nD τ sig) → Buf (Elt Ideal) ℓ) (ρ : Dev nD → PrngReg)

/-- Every window's block index at the one point. -/
theorem idx : ∀ t : Fin cfg0.N, win0_0.index t = ![0, 0] ∧ win0_1.index t = ![0, 0, 0] ∧ win0_2.index t = ![0, 0] ∧ win0_3.index t = ![0, 0]
    ∧ win0_4.index t = ![0, 0, 0] ∧ win0_5.index t = ![0, 0, 0] :=
  (by decide +kernel : ∀ t : Fin grid0.N, _)

theorem block0 (c : Dev nD) (t : Fin cfg0.N) : iblk m c 0 t = V m c main_v1 := by
  funext y
  unfold iblk
  generalize V m c = G
  blk_ext [idx t]

theorem block1 (c : Dev nD) (t : Fin cfg0.N) : iblk m c 1 t = V m c main_v2 := by
  funext y
  unfold iblk
  generalize V m c = G
  blk_ext [idx t]

theorem block2 (c : Dev nD) (t : Fin cfg0.N) : iblk m c 2 t = V m c main_arg2 := by
  funext y
  unfold iblk
  generalize V m c = G
  blk_ext [idx t]

theorem block3 (c : Dev nD) (t : Fin cfg0.N) : iblk m c 3 t = V m c main_v3 := by
  funext y
  unfold iblk
  generalize V m c = G
  blk_ext [idx t]

/-- The first output array ends at the least distances. -/
theorem final_min (c : Dev nD) : (dats m 0 c).arrAt 4 cfg0.N = tileMin (V m c main_v1) (V m c main_v2) (V m c main_arg2) (V m c main_v3) := by
  refine (dats m 0 c).arrAt_eq_of_covers 4 (tileMin (V m c main_v1) (V m c main_v2) (V m c main_arg2) (V m c main_v3)) (by decide +kernel) fun t hf y => ?_
  blk_simp
  rw [after0_4]
  refine (outMin_at _ _ _ _ _ _ _ _ _ _ _ _ _ _ _ _ _).trans ?_
  rw [block0, block1, block2, block3]
  generalize V m c = G
  show tileMin _ _ _ _ y = _
  blk_ext [idx t]

/-- The second output array ends at the gaps. -/
theorem final_gap (c : Dev nD) : (dats m 0 c).arrAt 5 cfg0.N = tileGap (V m c main_v1) (V m c main_v2) (V m c main_arg2) (V m c main_v3) := by
  refine (dats m 0 c).arrAt_eq_of_covers 5 (tileGap (V m c main_v1) (V m c main_v2) (V m c main_arg2) (V m c main_v3)) (by decide +kernel) fun t hf y => ?_
  blk_simp
  rw [after0_5]
  refine (outGap_at _ _ _ _ _ _ _ _ _ _ _ _ _ _ _ _ _).trans ?_
  rw [block0, block1, block2, block3]
  generalize V m c = G
  show tileGap _ _ _ _ y = _
  blk_ext [idx t]

/-! ## The operands, of the arguments -/

/-- The token codes, one column per token. -/
abbrev tokT (a0 : FVec Ideal S6x2304x16 .fp8e4m3) : Vec Ideal S16x13824 .fp8e4m3 :=
  transpose S16x13824 [1, 0] (shapeCast S13824x16 a0 shapeCasts_S6x2304x16_S13824x16) transposes_S13824x16_S16x13824_1_0
/-- The token scales, tile by tile. -/
abbrev tileScales (a1 : FVec Ideal S6x2304 .f32) : Vec Ideal S27x1x512 .f32 := shapeCast S27x1x512 a1 shapeCasts_S6x2304_S27x1x512
/-- The code scales, 128 to a row. -/
abbrev scaleRows (a3 : FVec Ideal S8192 .f32) : Vec Ideal S64x128 .f32 := shapeCast S64x128 a3 shapeCasts_S8192_S64x128

theorem V_v1 (c : Dev nD) : V m c main_v1 = tokT (m ((c : Thread nD τ).loc main_arg0)) := by
  show StableHlo.after hostOps0 _ _ = _
  after_results
  rfl

theorem V_v2 (c : Dev nD) : V m c main_v2 = tileScales (m ((c : Thread nD τ).loc main_arg1)) := by
  show StableHlo.after hostOps0 _ _ = _
  after_results
  rfl

theorem V_v3 (c : Dev nD) : V m c main_v3 = scaleRows (m ((c : Thread nD τ).loc main_arg3)) := by
  show StableHlo.after hostOps0 _ _ = _
  after_results
  rfl

theorem V_a2 (c : Dev nD) : V m c main_arg2 = m ((c : Thread nD τ).loc main_arg2) := by
  show StableHlo.after hostOps0 _ _ = _
  after_results

/-! ## The results -/

/-- The first result, of the arguments. -/
def res0 (a0 : FVec Ideal S6x2304x16 .fp8e4m3) (a1 : FVec Ideal S6x2304 .f32) (a2 : FVec Ideal S8192x16 .fp8e4m3) (a3 : FVec Ideal S8192 .f32) : FVec Ideal S6x2304 .f32 :=
  shapeCast S6x2304 (tileMin (tokT a0) (tileScales a1) a2 (scaleRows a3)) shapeCasts_S27x1x512_S6x2304

/-- The second result, of the arguments. -/
def res1 (a0 : FVec Ideal S6x2304x16 .fp8e4m3) (a1 : FVec Ideal S6x2304 .f32) (a2 : FVec Ideal S8192x16 .fp8e4m3) (a3 : FVec Ideal S8192 .f32) : FVec Ideal S6x2304 .f32 :=
  shapeCast S6x2304 (tileGap (tokT a0) (tileScales a1) a2 (scaleRows a3)) shapeCasts_S27x1x512_S6x2304

/-- The buffers when the region has ended. -/
abbrev mid (c : Dev nD) : Valuation τ sig (Elt Ideal) :=
  Pipeline.withArrays (cfgs 0).spec c (V0 m c) fun w => (dats m 0 c).arrAt w (cfgs 0).N

theorem mid_min (c : Dev nD) : mid m c (main_v4_0 : DevRef τ sig)
    = tileMin (tokT (m ((c : Thread nD τ).loc main_arg0))) (tileScales (m ((c : Thread nD τ).loc main_arg1))) (m ((c : Thread nD τ).loc main_arg2)) (scaleRows (m ((c : Thread nD τ).loc main_arg3))) := by
  refine (Pipeline.withArrays_arr _ winFacts0.arr_inj c _ _ 4).trans ((final_min m c).trans ?_)
  rw [V_v1, V_v2, V_v3, V_a2]

theorem mid_gap (c : Dev nD) : mid m c (main_v4_1 : DevRef τ sig)
    = tileGap (tokT (m ((c : Thread nD τ).loc main_arg0))) (tileScales (m ((c : Thread nD τ).loc main_arg1))) (m ((c : Thread nD τ).loc main_arg2)) (scaleRows (m ((c : Thread nD τ).loc main_arg3))) := by
  refine (Pipeline.withArrays_arr _ winFacts0.arr_inj c _ _ 5).trans ((final_gap m c).trans ?_)
  rw [V_v1, V_v2, V_v3, V_a2]

theorem after_min (W : Valuation τ sig (Elt Ideal)) (z : FVec Ideal S27x1x512 .f32) (h : W (main_v4_0 : DevRef τ sig) = z) :
    StableHlo.after hostOps1 W (main_v5 : DevRef τ sig) = shapeCast S6x2304 z shapeCasts_S27x1x512_S6x2304 := by
  subst h
  after_results
  rfl

theorem after_gap (W : Valuation τ sig (Elt Ideal)) (z : FVec Ideal S27x1x512 .f32) (h : W (main_v4_1 : DevRef τ sig) = z) :
    StableHlo.after hostOps1 W (main_v6 : DevRef τ sig) = shapeCast S6x2304 z shapeCasts_S27x1x512_S6x2304 := by
  subst h
  after_results
  rfl

/-- Every run of the kernel program ends with these two results. -/
theorem run : θ_run defs (onTc (τ := τ) (main (F := Ideal))) ⟨m, fun _ => 0, ρ⟩ (fun r => ∀ c : Dev nD,
      r.2.mem ((c.tc : Thread nD τ).loc main_v5) = res0 (m ((c : Thread nD τ).loc main_arg0)) (m ((c : Thread nD τ).loc main_arg1)) (m ((c : Thread nD τ).loc main_arg2)) (m ((c : Thread nD τ).loc main_arg3))
      ∧ r.2.mem ((c.tc : Thread nD τ).loc main_v6) = res1 (m ((c : Thread nD τ).loc main_arg0)) (m ((c : Thread nD τ).loc main_arg1)) (m ((c : Thread nD τ).loc main_arg2)) (m ((c : Thread nD τ).loc main_arg3))) :=
  (θ_run defs _ _).mono (fun _ h c =>
    ⟨((h c).2 main_v5 (Pipeline.mem_restRefs_of main_v5 (by decide) (by decide))).trans (after_min (mid m c) _ (mid_min m c)),
     ((h c).2 main_v6 (Pipeline.mem_restRefs_of main_v6 (by decide) (by decide))).trans (after_gap (mid m c) _ (mid_gap m c))⟩) (run_main m ρ)

end Cert.KernelIdeal.Finals

end
-- ==== Proof.Plain.lean ====
/- The reference's mathematics over the extended reals: the distance of a token to a code, and what its
   top-two of the negated distances is. -/
module

public import proofs.«01_k».proof.Proof.Gen.ReferenceIdeal.Frame
public import proofs.«01_k».proof.Proof.TwoLeast
public import Idealize.ShloMosaic.Lib.Pointwise

@[expose] public section

set_option maxRecDepth 16384

noncomputable section

namespace Cert.ReferenceIdeal.Plain

open Idealize.ShloMosaic Idealize.ShloMosaic.TcCoe
open Cert.ReferenceIdeal.Gen
open Cert.TwoLeast

variable (xs : FVec Ideal S13824 .f32) (xw : FVec Ideal S13824x16 .f32) (cs : FVec Ideal S8192 .f32) (cw : FVec Ideal S8192x16 .f32)

/-- All distances. -/
def dists : FVec Ideal S13824x8192 .f32 :=
  subf
    (addf
      (broadcastInDim S13824x8192 ![0, 1] bcast_S13824x1_S13824x8192_0_1 (broadcastInDim S13824x1 ![0] bcast_S13824_S13824x1_0
        (mulf (mulf xs xs) (Host.reduceAdd (mulf xw xw) (constant S_ .f32 0x00000000#32) reducesTo_S13824x16_S13824_d1 h_S_))))
      (broadcastInDim S13824x8192 ![0, 1] bcast_S1x8192_S13824x8192_0_1 (broadcastInDim S1x8192 ![1] bcast_S8192_S1x8192_1
        (mulf (mulf cs cs) (Host.reduceAdd (mulf cw cw) (constant S_ .f32 0x00000000#32) reducesTo_S8192x16_S8192_d1 h_S_)))))
    (mulf
      (mulf (broadcastInDim S13824x8192 ![] bcast_S_S13824x8192 (constant S_ .f32 0x40000000#32))
        (mulf (broadcastInDim S13824x8192 ![0, 1] bcast_S13824x1_S13824x8192_0_1 (broadcastInDim S13824x1 ![0] bcast_S13824_S13824x1_0 xs))
          (broadcastInDim S13824x8192 ![0, 1] bcast_S1x8192_S13824x8192_0_1 (broadcastInDim S1x8192 ![1] bcast_S8192_S1x8192_1 cs))))
      (Host.dotGeneral dot_S13824x16_S8192x16_S13824x8192_1_1_0_0_n_n none xw cw))

/-- The distance of token `t` to code `v`. -/
def dist (t : Fin 13824) (v : Fin 8192) : EReal :=
  ((xs (ix1 (n0 := 13824) t) * xs (ix1 (n0 := 13824) t)) * (∑ d : Fin 16, xw (ix2 (n0 := 13824) (n1 := 16) t d) * xw (ix2 (n0 := 13824) (n1 := 16) t d))
    + (cs (ix1 (n0 := 8192) v) * cs (ix1 (n0 := 8192) v)) * (∑ d : Fin 16, cw (ix2 (n0 := 8192) (n1 := 16) v d) * cw (ix2 (n0 := 8192) (n1 := 16) v d)))
  - (Ideal.ofBits .f32 0x40000000#32 * (xs (ix1 (n0 := 13824) t) * cs (ix1 (n0 := 8192) v)))
    * (∑ d : Fin 16, xw (ix2 (n0 := 13824) (n1 := 16) t d) * cw (ix2 (n0 := 8192) (n1 := 16) v d))

theorem dists_at (t : Fin 13824) (v : Fin 8192) : dists xs xw cs cw (ix2 (n0 := 13824) (n1 := 8192) t v) = dist xs xw cs cw t v := by
  unfold dist
  pointwise [dists]

/-- The top two of the negated distances, negated. -/
def two : FVec Ideal S13824x2 .f32 :=
  Host.negf (Host.topK S13824x2 1 (FloatOps.cmpfTotal .gt) (Host.negf (dists xs xw cs cw)) sliceFits_S13824x8192_S13824x2).1

theorem along_at (t : Fin 13824) (v w : Fin 8192) :
    (ix2 (n0 := 13824) (n1 := 8192) t v).along (1 : Fin S13824x8192.rank) w = ix2 (n0 := 13824) (n1 := 8192) t w := by
  funext a
  match a with
  | ⟨0, _⟩ => rfl
  | ⟨1, _⟩ => rfl

/-- The order the sort goes by: the larger entry first. -/
theorem gt_at (x : FVec Ideal S13824x8192 .f32) (t : Fin 13824) (v k k' : Fin 8192) :
    (FloatOps.cmpfTotal (F := Ideal) (φ := .f32) .gt (x ((ix2 (n0 := 13824) (n1 := 8192) t v).along (1 : Fin S13824x8192.rank) k))
        (x ((ix2 (n0 := 13824) (n1 := 8192) t v).along (1 : Fin S13824x8192.rank) k')) == 1#1)
      = decide ((x (ix2 (n0 := 13824) (n1 := 8192) t k') : EReal) < x (ix2 (n0 := 13824) (n1 := 8192) t k)) := by
  rw [along_at, along_at]
  show (Ideal.cmpTotal .gt _ _ == 1#1) = _
  unfold Ideal.cmpTotal Ideal.cmp CmpDirection.ordered
  dsimp only
  by_cases h : (x (ix2 (n0 := 13824) (n1 := 8192) t k') : EReal) < x (ix2 (n0 := 13824) (n1 := 8192) t k)
  · rw [decide_eq_true h]; rfl
  · rw [decide_eq_false h]; rfl

/-- The top two's `i`-th entry of a row is the entry the sort of the row puts there. -/
theorem topK_at (x : FVec Ideal S13824x8192 .f32) (t : Fin 13824) (i : Fin 2) :
    (Host.topK S13824x2 1 (FloatOps.cmpfTotal .gt) x sliceFits_S13824x8192_S13824x2).1 (ix2 (n0 := 13824) (n1 := 2) t i)
      = x (ix2 (n0 := 13824) (n1 := 8192) t (sortedFrom (fun k k' : Fin 8192 =>
          decide ((x (ix2 (n0 := 13824) (n1 := 8192) t k') : EReal) < x (ix2 (n0 := 13824) (n1 := 8192) t k))) ⟨i.val, by omega⟩)) := by
  have ej : (fun a : Fin 2 => (⟨0 + (ix2 (n0 := 13824) (n1 := 2) t i a).val, by
      match a with
      | ⟨0, _⟩ => show 0 + t.val < 13824; omega
      | ⟨1, _⟩ => show 0 + i.val < 8192; omega⟩ : Fin (S13824x8192.size a)))
      = ix2 (n0 := 13824) (n1 := 8192) t ⟨i.val, by omega⟩ := by
    funext a
    match a with
    | ⟨0, _⟩ => exact Fin.ext (by show 0 + t.val = t.val; omega)
    | ⟨1, _⟩ => exact Fin.ext (by show 0 + i.val = i.val; omega)
  unfold Host.topK
  dsimp only
  rw [Host.sort2_eq_sortBy]
  dsimp only
  refine (congrArg _ ej).trans ?_
  unfold Host.sortBy
  rw [dif_pos (by decide)]
  refine (congrArg x (along_at t _ _)).trans ?_
  refine congrArg (fun B => x (ix2 (n0 := 13824) (n1 := 8192) t (sortedFrom B ⟨i.val, by omega⟩))) ?_
  funext k k'
  exact gt_at x t _ k k'

/-- So the two results per token are the least and the second least distance. -/
theorem two_at (t : Fin 13824) :
    Two Finset.univ (dist xs xw cs cw t) (two xs xw cs cw (ix2 (n0 := 13824) (n1 := 2) t 0), two xs xw cs cw (ix2 (n0 := 13824) (n1 := 2) t 1)) := by
  have e : ∀ i : Fin 2, two xs xw cs cw (ix2 (n0 := 13824) (n1 := 2) t i)
      = dist xs xw cs cw t (sortedFrom (fun k k' : Fin 8192 => decide (-dist xs xw cs cw t k' < -dist xs xw cs cw t k)) ⟨i.val, by omega⟩) := by
    intro i
    have h := topK_at (Host.negf (dists xs xw cs cw)) t i
    have hn : ∀ v, (Host.negf (dists xs xw cs cw) (ix2 (n0 := 13824) (n1 := 8192) t v) : EReal) = -dist xs xw cs cw t v := fun v =>
      congrArg (fun z : EReal => -z) (dists_at xs xw cs cw t v)
    simp only [hn] at h
    exact (congrArg (fun z : EReal => -z) h).trans (neg_neg _)
  rw [e 0, e 1]
  exact two_sorted _ (by decide) (by decide) _ fun _ _ => rfl

/-- The least distances, token by token. -/
def nearest : FVec Ideal S13824 .f32 :=
  shapeCast S13824 (extractStridedSlice S13824x1 ![0, 0] (two xs xw cs cw) slices_S13824x2_S13824x1_0_0) shapeCasts_S13824x1_S13824

/-- The second least less the least. -/
def gap : FVec Ideal S13824 .f32 :=
  subf (shapeCast S13824 (extractStridedSlice S13824x1 ![0, 1] (two xs xw cs cw) slices_S13824x2_S13824x1_0_1) shapeCasts_S13824x1_S13824)
    (nearest xs xw cs cw)

theorem nearest_at (t : Fin 13824) : nearest xs xw cs cw (ix1 (n0 := 13824) t) = least Finset.univ (dist xs xw cs cw t) := by
  refine Eq.trans ?_ (two_at xs xw cs cw t).1
  pointwise [nearest]

theorem gap_at (t : Fin 13824) : gap xs xw cs cw (ix1 (n0 := 13824) t)
    = second Finset.univ (dist xs xw cs cw t) - least Finset.univ (dist xs xw cs cw t) := by
  rw [← nearest_at xs xw cs cw t, ← (two_at xs xw cs cw t).2]
  refine congrArg (fun z : EReal => z - (nearest xs xw cs cw (ix1 (n0 := 13824) t) : EReal)) ?_
  pointwise

end Cert.ReferenceIdeal.Plain

end
-- ==== Proof.After.lean ====
/- What the reference's host operations after its region leave in its two results. -/
module

public import proofs.«01_k».proof.Proof.Plain
public import Idealize.ShloMosaic.Lib.Claim

@[expose] public section

set_option maxRecDepth 16384

noncomputable section

namespace Cert.ReferenceIdeal.Plain

open Idealize.ShloMosaic Idealize.ShloMosaic.TcCoe Idealize.ShloMosaic.StableHlo
open Cert.ReferenceIdeal.Gen

/-- The scales as the reference reads them: one per token. -/
abbrev tokScales (x : FVec Ideal S6x2304 .f32) : FVec Ideal S13824 .f32 := shapeCast S13824 x shapeCasts_S6x2304_S13824

theorem after_nearest (V : Valuation τ sig (Elt Ideal)) :
    after hostOps1 V (main_v30 : DevRef τ sig)
      = shapeCast S6x2304 (nearest (tokScales (V (main_arg1 : DevRef τ sig))) (V (main_v1_0 : DevRef τ sig)) (V (main_arg3 : DevRef τ sig)) (V (main_v1_1 : DevRef τ sig)))
          shapeCasts_S13824_S6x2304 := by
  after_results
  rfl

theorem after_gap (V : Valuation τ sig (Elt Ideal)) :
    after hostOps1 V (main_v36 : DevRef τ sig)
      = shapeCast S6x2304 (gap (tokScales (V (main_arg1 : DevRef τ sig))) (V (main_v1_0 : DevRef τ sig)) (V (main_arg3 : DevRef τ sig)) (V (main_v1_1 : DevRef τ sig)))
          shapeCasts_S13824_S6x2304 := by
  after_results
  rfl

end Cert.ReferenceIdeal.Plain

end
-- ==== Proof.Arrays.lean ====
/- The reference's region: its two arrays are the codes, cast. -/
module

public import proofs.«01_k».proof.Proof.Plain
public import Idealize.ShloMosaic.Lib.Claim
public import Idealize.ShloMosaic.Lib.Pipeline.ValueKit

@[expose] public section

set_option maxRecDepth 16384

noncomputable section

namespace Cert.ReferenceIdeal.Plain

open Idealize.ShloMosaic Idealize.ShloMosaic.TcCoe
open Idealize.ShloMosaic.Pipeline
open Cert.ReferenceIdeal.Gen

variable (m : (ℓ : Loc nD τ sig) → Buf (Elt Ideal) ℓ)

theorem hz : (![0, 0] : Fin 2 → Nat) = fun _ => 0 := funext fun a => by fin_cases a <;> rfl

/-- Every window's block index at the one point. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

/-- The body casts each token's codes. -/
theorem out0_2_at (x0 : Vec Ideal S13824x16 .fp8e4m3) (x1 : Vec Ideal S8192x16 .fp8e4m3) : out0_2 x0 x1 = x0 := by
  unfold out0_2
  rw [View.canon_unit_zero hz, View.ld_unit_zero hz]
  unfold k0_pay1
  rw [shapeCast_self]
  rfl

/-- So the token array ends at the codes it was given. -/
theorem tokens_eq (c : Dev nD) : (dats m 0 c).arrAt 2 cfg0.N = V m c main_v0 := by
  refine (dats m 0 c).arrAt_eq_of_covers 2 (V m c main_v0) (by decide +kernel) fun t hf y => ?_
  blk_simp
  rw [after0_2, out0_2_at]
  unfold iblk
  generalize V m c = G
  blk_ext [idx t]

theorem codes_eq (c : Dev nD) : (dats m 0 c).arrAt 3 cfg0.N = V m c main_arg2 := by
  refine (dats m 0 c).arrAt_eq_of_covers 3 (V m c main_arg2) (by decide +kernel) fun t hf y => ?_
  blk_simp
  rw [after0_3]
  unfold out0_3
  rw [View.canon_unit_zero hz, View.ld_unit_zero hz]
  show iblk m c 1 t y = V m c main_arg2 _
  blk_ext [iblk, idx t]

theorem V_tokens (c : Dev nD) : V m c main_v0 = shapeCast S13824x16 (m ((c : Thread nD τ).loc main_arg0)) shapeCasts_S6x2304x16_S13824x16 := by
  show StableHlo.after hostOps0 _ _ = _
  after_results
  rfl

end Cert.ReferenceIdeal.Plain

end
-- ==== Proof.Refval.lean ====
/- The reference program's value: its two results as the plain mathematics of its arguments. -/
module

public import proofs.«01_k».proof.Proof.After
public import proofs.«01_k».proof.Proof.Arrays

@[expose] public section

set_option maxRecDepth 16384

noncomputable section

namespace Cert.ReferenceIdeal.Plain

open Idealize.ShloMosaic Idealize.ShloMosaic.TcCoe
open Idealize.SL.Sem
open Cert.ReferenceIdeal.Gen

variable (m : (ℓ : Loc nD τ sig) → Buf (Elt Ideal) ℓ) (ρ : Dev nD → PrngReg)

/-- The token codes, one row per token. -/
abbrev tokCodes (x : FVec Ideal S6x2304x16 .fp8e4m3) : FVec Ideal S13824x16 .f32 := shapeCast S13824x16 x shapeCasts_S6x2304x16_S13824x16

/-- The buffers when the region has ended. -/
abbrev mid (c : Dev nD) : Valuation τ sig (Elt Ideal) :=
  Pipeline.withArrays (cfgs 0).spec c (V0 m c) fun w => (dats m 0 c).arrAt w (cfgs 0).N

theorem mid_tokens (c : Dev nD) : mid m c (main_v1_0 : DevRef τ sig) = tokCodes (m ((c : Thread nD τ).loc main_arg0)) :=
  (Pipeline.withArrays_arr _ winFacts0.arr_inj c _ _ 2).trans ((tokens_eq m c).trans (V_tokens m c))

theorem mid_codes (c : Dev nD) : mid m c (main_v1_1 : DevRef τ sig) = m ((c : Thread nD τ).loc main_arg2) :=
  (Pipeline.withArrays_arr _ winFacts0.arr_inj c _ _ 3).trans ((codes_eq m c).trans (V_main_arg2 m c))

theorem mid_tokScales (c : Dev nD) : mid m c (main_arg1 : DevRef τ sig) = m ((c : Thread nD τ).loc main_arg1) :=
  (Pipeline.withArrays_of_ne _ c (V0 m c) _ main_arg1 (by exact (by decide : ∀ w, Pipeline.arrRef spec0 w ≠ main_arg1))).trans (V_main_arg1 m c)

theorem mid_codeScales (c : Dev nD) : mid m c (main_arg3 : DevRef τ sig) = m ((c : Thread nD τ).loc main_arg3) :=
  (Pipeline.withArrays_of_ne _ c (V0 m c) _ main_arg3 (by exact (by decide : ∀ w, Pipeline.arrRef spec0 w ≠ main_arg3))).trans (V_main_arg3 m c)

/-- The first result: each token's least distance. -/
def res0 (a0 : FVec Ideal S6x2304x16 .fp8e4m3) (a1 : FVec Ideal S6x2304 .f32) (a2 : FVec Ideal S8192x16 .fp8e4m3) (a3 : FVec Ideal S8192 .f32) : FVec Ideal S6x2304 .f32 :=
  shapeCast S6x2304 (nearest (tokScales a1) (tokCodes a0) a3 a2) shapeCasts_S13824_S6x2304

/-- The second result: the second least distance less the least. -/
def res1 (a0 : FVec Ideal S6x2304x16 .fp8e4m3) (a1 : FVec Ideal S6x2304 .f32) (a2 : FVec Ideal S8192x16 .fp8e4m3) (a3 : FVec Ideal S8192 .f32) : FVec Ideal S6x2304 .f32 :=
  shapeCast S6x2304 (gap (tokScales a1) (tokCodes a0) a3 a2) shapeCasts_S13824_S6x2304

theorem after_res0 (V : Valuation τ sig (Elt Ideal)) (a0 : FVec Ideal S6x2304x16 .fp8e4m3) (a1 : FVec Ideal S6x2304 .f32) (a2 : FVec Ideal S8192x16 .fp8e4m3) (a3 : FVec Ideal S8192 .f32)
    (h1 : V (main_arg1 : DevRef τ sig) = a1) (h0 : V (main_v1_0 : DevRef τ sig) = tokCodes a0) (h3 : V (main_arg3 : DevRef τ sig) = a3) (h2 : V (main_v1_1 : DevRef τ sig) = a2) :
    StableHlo.after hostOps1 V (main_v30 : DevRef τ sig) = res0 a0 a1 a2 a3 := by
  rw [after_nearest, h0, h1, h2, h3]
  rfl

theorem after_res1 (V : Valuation τ sig (Elt Ideal)) (a0 : FVec Ideal S6x2304x16 .fp8e4m3) (a1 : FVec Ideal S6x2304 .f32) (a2 : FVec Ideal S8192x16 .fp8e4m3) (a3 : FVec Ideal S8192 .f32)
    (h1 : V (main_arg1 : DevRef τ sig) = a1) (h0 : V (main_v1_0 : DevRef τ sig) = tokCodes a0) (h3 : V (main_arg3 : DevRef τ sig) = a3) (h2 : V (main_v1_1 : DevRef τ sig) = a2) :
    StableHlo.after hostOps1 V (main_v36 : DevRef τ sig) = res1 a0 a1 a2 a3 := by
  rw [after_gap, h0, h1, h2, h3]
  rfl

theorem tail0 (c : Dev nD) : Pipeline.afterTail₀ cfgs (dats m) 0 (V0 m) [hostOps1] c main_v30
    = res0 (m ((c : Thread nD τ).loc main_arg0)) (m ((c : Thread nD τ).loc main_arg1)) (m ((c : Thread nD τ).loc main_arg2)) (m ((c : Thread nD τ).loc main_arg3)) :=
  after_res0 (mid m c) _ _ _ _ (mid_tokScales m c) (mid_tokens m c) (mid_codeScales m c) (mid_codes m c)

theorem tail1 (c : Dev nD) : Pipeline.afterTail₀ cfgs (dats m) 0 (V0 m) [hostOps1] c main_v36
    = res1 (m ((c : Thread nD τ).loc main_arg0)) (m ((c : Thread nD τ).loc main_arg1)) (m ((c : Thread nD τ).loc main_arg2)) (m ((c : Thread nD τ).loc main_arg3)) :=
  after_res1 (mid m c) _ _ _ _ (mid_tokScales m c) (mid_tokens m c) (mid_codeScales m c) (mid_codes m c)

/-- Every run of the reference ends with these two results. -/
theorem run : θ_run defs (onTc (τ := τ) (main (F := Ideal))) ⟨m, fun _ => 0, ρ⟩ (fun r => ∀ c : Dev nD,
      r.2.mem ((c.tc : Thread nD τ).loc main_v30) = res0 (m ((c : Thread nD τ).loc main_arg0)) (m ((c : Thread nD τ).loc main_arg1)) (m ((c : Thread nD τ).loc main_arg2)) (m ((c : Thread nD τ).loc main_arg3))
      ∧ r.2.mem ((c.tc : Thread nD τ).loc main_v36) = res1 (m ((c : Thread nD τ).loc main_arg0)) (m ((c : Thread nD τ).loc main_arg1)) (m ((c : Thread nD τ).loc main_arg2)) (m ((c : Thread nD τ).loc main_arg3))) :=
  (θ_run defs _ _).mono (fun _ h c =>
    ⟨((h c).2 main_v30 (Pipeline.mem_restRefs_of main_v30 (by decide) (by decide))).trans (tail0 m c),
     ((h c).2 main_v36 (Pipeline.mem_restRefs_of main_v36 (by decide) (by decide))).trans (tail1 m c)⟩) (run_main m ρ)

end Cert.ReferenceIdeal.Plain

end
-- ==== Proof.Agree.lean ====
/- The two programs' results are the same function: a token's partial distances and norm, summed, are its
   distances, and the least of shifted values is the shifted least. -/
module

public import proofs.«01_k».proof.Proof.Finals
public import proofs.«01_k».proof.Proof.Refval

@[expose] public section

set_option maxRecDepth 16384

noncomputable section

namespace Cert.Agree

open Idealize.ShloMosaic Idealize.ShloMosaic.TcCoe
open Cert.KernelIdeal Cert.KernelIdeal.Gen Cert.KernelIdeal.Tile Cert.KernelIdeal.Finals
open Cert.TwoLeast
open Cert.ReferenceIdeal.Plain (tokCodes tokScales nearest gap)

variable (a0 : FVec Ideal S6x2304x16 .fp8e4m3) (a1 : FVec Ideal S6x2304 .f32) (a2 : FVec Ideal S8192x16 .fp8e4m3) (a3 : FVec Ideal S8192 .f32)

/-- The token that tile `k` has at `t`. -/
def flat (k : Fin 27) (t : Fin 512) : Fin 13824 := ⟨512 * k.val + t.val, by omega⟩

theorem tok_eq (k : Fin k0_t2_loop.trips) (t : Fin 512) (d : Fin 16) :
    tok (tokT a0) k t d = tokCodes a0 (ix2 (n0 := 13824) (n1 := 16) (flat ⟨k.val, trip_lt k⟩ t) d) := by
  unfold tok tokT tokCodes flat
  generalize shapeCast Cert.KernelIdeal.S13824x16 a0 _ = x
  pointwise

theorem tokScale_eq (k : Fin k0_t2_loop.trips) (t : Fin 512) :
    tokScale (tileScales a1) k t = tokScales a1 (ix1 (n0 := 13824) (flat ⟨k.val, trip_lt k⟩ t)) := by
  have e : tileScales a1 = shapeCast Cert.KernelIdeal.S27x1x512 (tokScales a1) (by decide) := (shapeCast_comp _ _ _).symm
  rw [e]
  unfold tokScale flat
  generalize tokScales a1 = x
  pointwise
  exact congrArg x (congrArg (ix1 (n0 := 13824)) (Fin.ext (by show k.val * 512 + t.val = 512 * k.val + t.val; omega)))

theorem codeScale_eq (c : Fin 8192) : codeScale (scaleRows a3) c = a3 (ix1 (n0 := 8192) c) := by
  unfold codeScale scaleRows
  pointwise

/-- A tile's array, read in token order. -/
theorem flat_at (z : FVec Ideal S27x1x512 .f32) (k : Fin 27) (t : Fin 512) (h : S27x1x512.ShapeCasts Cert.ReferenceIdeal.S13824) :
    shapeCast Cert.ReferenceIdeal.S13824 z h (ix1 (n0 := 13824) (flat k t)) = z (ix3 (n0 := 27) (n1 := 1) (n2 := 512) k 0 t) := by
  unfold flat
  pointwise

/-- Sums and products regrouped; no finiteness is needed. -/
theorem regroup (x y b c s p q : EReal) (h : p = q) : x - b * c * s * p + y = y + x - b * (s * c) * q := by
  rw [h, mul_assoc b c s, mul_comm c s, sub_eq_add_neg, sub_eq_add_neg, add_right_comm, add_comm x y]

/-- The kernel's partial distance and the token's norm make the reference's distance. -/
theorem dist_eq (k : Fin k0_t2_loop.trips) (t : Fin 512) (c : Fin 8192) :
    part (tokT a0) (tileScales a1) a2 (scaleRows a3) k t c + tokNorm (tokT a0) (tileScales a1) k t
      = Cert.ReferenceIdeal.Plain.dist (tokScales a1) (tokCodes a0) a3 a2 (flat ⟨k.val, trip_lt k⟩ t) c := by
  unfold part tokNorm codeSquares Cert.ReferenceIdeal.Plain.dist
  rw [codeScale_eq, tokScale_eq, show tok (tokT a0) k t = _ from funext fun d => tok_eq a0 k t d]
  exact regroup _ _ _ _ _ _ _ (Finset.sum_congr rfl fun d _ => mul_comm _ _)

theorem shift_mono (x : EReal) : Monotone fun z : EReal => z + x := fun _ _ h => add_le_add_left h x

/-- The least of a token's partial distances, shifted by its norm, is its least distance. -/
theorem least_eq (k : Fin k0_t2_loop.trips) (t : Fin 512) :
    least Finset.univ (part (tokT a0) (tileScales a1) a2 (scaleRows a3) k t) + tokNorm (tokT a0) (tileScales a1) k t
      = least Finset.univ (Cert.ReferenceIdeal.Plain.dist (tokScales a1) (tokCodes a0) a3 a2 (flat ⟨k.val, trip_lt k⟩ t)) :=
  (map_least (s := Finset.univ) ⟨(0 : Fin 8192), Finset.mem_univ _⟩ _ (shift_mono _)).trans
    (congrArg (least Finset.univ) (funext fun c => dist_eq a0 a1 a2 a3 k t c))

/-- So is the second least. -/
theorem second_eq (k : Fin k0_t2_loop.trips) (t : Fin 512) :
    second Finset.univ (part (tokT a0) (tileScales a1) a2 (scaleRows a3) k t) + tokNorm (tokT a0) (tileScales a1) k t
      = second Finset.univ (Cert.ReferenceIdeal.Plain.dist (tokScales a1) (tokCodes a0) a3 a2 (flat ⟨k.val, trip_lt k⟩ t)) :=
  (map_second (s := Finset.univ) ⟨((0 : Fin 8192), (1 : Fin 8192)), Finset.mem_offDiag.2 ⟨Finset.mem_univ _, Finset.mem_univ _, by decide⟩⟩ _ (shift_mono _)).trans
    (congrArg (second Finset.univ) (funext fun c => dist_eq a0 a1 a2 a3 k t c))

/-- An array of the tiles and one of the tokens that agree entry by entry are reshapes of one another. -/
theorem reshape_eq (z : FVec Ideal S27x1x512 .f32) (y : FVec Ideal Cert.ReferenceIdeal.S13824 .f32)
    (hy : Cert.ReferenceIdeal.S13824.ShapeCasts S6x2304)
    (h : ∀ (k : Fin 27) (t : Fin 512), z (ix3 (n0 := 27) (n1 := 1) (n2 := 512) k 0 t) = y (ix1 (n0 := 13824) (flat k t))) :
    shapeCast S6x2304 z shapeCasts_S27x1x512_S6x2304 = shapeCast S6x2304 y hy := by
  have e : y = shapeCast Cert.ReferenceIdeal.S13824 z (by decide) := by
    funext j
    have hj : j = ix1 (n0 := 13824) (flat ⟨(j 0).val / 512, by have : (j 0).val < 13824 := (j 0).isLt; omega⟩ ⟨(j 0).val % 512, by omega⟩) := by
      funext a
      match a with
      | ⟨0, _⟩ => exact Fin.ext (Nat.div_add_mod (j 0).val 512).symm
    rw [hj, flat_at, h]
  rw [e]
  exact (shapeCast_comp _ _ _).symm

theorem res0_eq : Finals.res0 a0 a1 a2 a3 = Cert.ReferenceIdeal.Plain.res0 a0 a1 a2 a3 := by
  refine reshape_eq _ _ _ fun k t => ?_
  rw [Cert.ReferenceIdeal.Plain.nearest_at]
  exact least_eq a0 a1 a2 a3 ⟨k.val, k.isLt⟩ t

theorem res1_eq : Finals.res1 a0 a1 a2 a3 = Cert.ReferenceIdeal.Plain.res1 a0 a1 a2 a3 := by
  refine reshape_eq _ _ _ fun k t => ?_
  rw [Cert.ReferenceIdeal.Plain.gap_at]
  exact congrArg₂ (fun x y : EReal => x - y) (second_eq a0 a1 a2 a3 ⟨k.val, k.isLt⟩ t) (least_eq a0 a1 a2 a3 ⟨k.val, k.isLt⟩ t)

end Cert.Agree

end
-- ==== Proof.lean ====
/- The certificate: the claims of Defs.lean, put together. -/
module

public import proofs.«01_k».proof.Defs
public import proofs.«01_k».proof.Proof.Whole
public import proofs.«01_k».proof.Proof.Same
public import proofs.«01_k».proof.Proof.Agree
public import proofs.«01_k».proof.Proof.Gen.ReferenceIdeal.Frame

@[expose] public section

noncomputable section

namespace Cert.Proof

open Idealize.ShloMosaic Idealize.ShloMosaic.TcCoe
open Idealize.SL.Sem

/-- Kernel and reference, from equal arguments, end with equal results: each token's least squared distance
    to a code, and the second least less it. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Finals.res0 (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg2)) (m ((c : Thread Cert.KernelIdeal.nD Cert.KernelIdeal.τ).loc Cert.KernelIdeal.main_arg3)),
    fun c => Cert.KernelIdeal.Finals.res1 (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg2)) (m ((c : Thread Cert.KernelIdeal.nD Cert.KernelIdeal.τ).loc Cert.KernelIdeal.main_arg3)), ?_, ?_⟩
  · exact (θ_run Cert.KernelIdeal.defs _ _).mono (fun _ h c => ⟨(h.1 c).1, (h.1 c).2, h.2 c⟩)
      (θ_run_and (Cert.KernelIdeal.Finals.run m g) (Cert.KernelIdeal.Whole.unchanged m g))
  · refine (θ_run Cert.ReferenceIdeal.defs _ _).mono (fun r h c => ⟨(h.1 c).1.trans ?_, (h.1 c).2.trans ?_, h.2 c⟩)
      (θ_run_and (Cert.ReferenceIdeal.Plain.run m' g') (Cert.ReferenceIdeal.Gen.unchanged m' g'))
    · obtain ⟨h0, h1, h2, h3⟩ := hargs c
      rw [h0, h1, h2, h3]
      exact (Cert.Agree.res0_eq _ _ _ _).symm
    · obtain ⟨h0, h1, h2, h3⟩ := hargs c
      rw [h0, h1, h2, h3]
      exact (Cert.Agree.res1_eq _ _ _ _).symm

/-- Everything the certificate claims. -/
theorem claim : Cert.Claim :=
  ⟨Cert.Kernel.Gen.facts, Cert.KernelIdeal.Gen.facts, Cert.ReferenceIdeal.Gen.facts, Cert.Same.frame,
    fun m ρ _ => Cert.KernelIdeal.Whole.frame m ρ, fun m ρ _ => Cert.ReferenceIdeal.Gen.frame m ρ, trivial, algebraic⟩

end Cert.Proof

end
